-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_unique [hPre_nearest_unique : Cert.Pre_nearest_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_unique [hPre_nearest_unique : Cert.Pre_nearest_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_unique [hKernelIdeal : Cert.KernelIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_unique m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_unique [hReferenceIdeal : Cert.ReferenceIdeal.Facts] [hPre_nearest_unique : Cert.Pre_nearest_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nearest_unique [hKernelIdeal : Cert.KernelIdeal.Facts] [hReferenceIdeal : Cert.ReferenceIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_unique : Cert.Pre_nearest_unique.Facts),
    quiescent_Kernel (hKernel := hKernel)
    ∧ quiescent_KernelIdeal (hKernelIdeal := hKernelIdeal)
    ∧ quiescent_KernelIdeal_pre_nearest_unique (hKernelIdeal := hKernelIdeal) (hPre_nearest_unique := hPre_nearest_unique)
    ∧ quiescent_ReferenceIdeal (hReferenceIdeal := hReferenceIdeal)
    ∧ quiescent_ReferenceIdeal_pre_nearest_unique (hReferenceIdeal := hReferenceIdeal) (hPre_nearest_unique := hPre_nearest_unique)
    ∧ preserves_Kernel_KernelIdeal
    ∧ algebraic_KernelIdeal_ReferenceIdeal_pre_nearest_unique (hKernelIdeal := hKernelIdeal) (hReferenceIdeal := hReferenceIdeal) (hPre_nearest_unique := hPre_nearest_unique)
-- ==== Pre_nearest_unique.lean ====
abbrev S64x4x512x10 : Shape := ⟨4, ![64, 4, 512, 10]⟩
abbrev S64x4x512x4 : Shape := ⟨4, ![64, 4, 512, 4]⟩
abbrev S64x4x512x1x4 : Shape := ⟨5, ![64, 4, 512, 1, 4]⟩
abbrev S64x4x1x512x4 : Shape := ⟨5, ![64, 4, 1, 512, 4]⟩
abbrev S64x4x512x512x4 : Shape := ⟨5, ![64, 4, 512, 512, 4]⟩
abbrev S_ : Shape := ⟨0, ![]⟩
abbrev S64x4x512x512 : Shape := ⟨4, ![64, 4, 512, 512]⟩
abbrev S64x4x512 : Shape := ⟨3, ![64, 4, 512]⟩
abbrev S64x4x1x512 : Shape := ⟨4, ![64, 4, 1, 512]⟩
abbrev S64x4x512x1 : Shape := ⟨4, ![64, 4, 512, 1]⟩

class Facts : Prop where
  slices_S64x4x512x10_S64x4x512x4_0_0_0_5 : S64x4x512x10.Slices ![0, 0, 0, 5] S64x4x512x4
  bcast_S64x4x512x4_S64x4x512x1x4_0_1_2_4 : S64x4x512x4.BroadcastsInDim S64x4x512x1x4 (![0, 1, 2, 4] : Fin 4 → Fin S64x4x512x1x4.rank)
  bcast_S64x4x512x4_S64x4x1x512x4_0_1_3_4 : S64x4x512x4.BroadcastsInDim S64x4x1x512x4 (![0, 1, 3, 4] : Fin 4 → Fin S64x4x1x512x4.rank)
  bcast_S64x4x512x1x4_S64x4x512x512x4_0_1_2_3_4 : S64x4x512x1x4.BroadcastsInDim S64x4x512x512x4 (![0, 1, 2, 3, 4] : Fin 5 → Fin S64x4x512x512x4.rank)
  bcast_S64x4x1x512x4_S64x4x512x512x4_0_1_2_3_4 : S64x4x1x512x4.BroadcastsInDim S64x4x512x512x4 (![0, 1, 2, 3, 4] : Fin 5 → Fin S64x4x512x512x4.rank)
  reducesTo_S64x4x512x512x4_S64x4x512x512_d4 : S64x4x512x512x4.ReducesTo [4] S64x4x512x512
  h_S_ : 0 < S_.numel
  reducesTo_S64x4x512x512_S64x4x512_d2 : S64x4x512x512.ReducesTo [2] S64x4x512
  bcast_S64x4x512_S64x4x1x512_0_1_3 : S64x4x512.BroadcastsInDim S64x4x1x512 (![0, 1, 3] : Fin 3 → Fin S64x4x1x512.rank)
  bcast_S64x4x1x512_S64x4x512x512_0_1_2_3 : S64x4x1x512.BroadcastsInDim S64x4x512x512 (![0, 1, 2, 3] : Fin 4 → Fin S64x4x512x512.rank)
  natLt_1_32 : 1 < 32
  reducesTo_S64x4x512x512_S64x4x512_d3 : S64x4x512x512.ReducesTo [3] S64x4x512
  bcast_S64x4x512_S64x4x512x1_0_1_2 : S64x4x512.BroadcastsInDim S64x4x512x1 (![0, 1, 2] : Fin 3 → Fin S64x4x512x1.rank)
  bcast_S64x4x512x1_S64x4x512x512_0_1_2_3 : S64x4x512x1.BroadcastsInDim S64x4x512x512 (![0, 1, 2, 3] : Fin 4 → Fin S64x4x512x512.rank)
  bcast_S_S64x4x512 : S_.BroadcastsInDim S64x4x512 (![] : Fin 0 → Fin S64x4x512.rank)

variable [Facts]

def fn_part1 {F : FTy → Type} [FloatOps F] (main_v9 : FVec F S64x4x512 .f32) (main_v14 : IVec S64x4x512 32) (main_v15 : FVec F S64x4x512 .f32) (main_v19 : IVec S64x4x512x512 32) : IVec S64x4x512 1 :=
  let main_c_2 : IVec S_ 32 := constantI S_ 32 0#32
  let main_v20 : IVec S64x4x512 32 := (fun x v => Host.reduce IntOp.addi x v reducesTo_S64x4x512x512_S64x4x512_d3 h_S_) main_v19 main_c_2
  let main_cst_3 : FVec F S_ .f32 := constant S_ .f32 0x40C00000#32
  let main_v21 : FVec F S64x4x512 .f32 := broadcastInDim S64x4x512 ![] bcast_S_S64x4x512 main_cst_3
  let main_v22 : IVec S64x4x512 1 := cmpf .ogt main_v9 main_v21
  let main_c_4 : IVec S_ 32 := constantI S_ 32 1#32
  let main_v23 : IVec S64x4x512 32 := broadcastInDim S64x4x512 ![] bcast_S_S64x4x512 main_c_4
  let main_v24 : IVec S64x4x512 1 := cmpi .eq main_v14 main_v23
  let main_v25 : IVec S64x4x512 1 := ori main_v22 main_v24
  let main_cst_5 : FVec F S_ .f32 := constant S_ .f32 0x40C00000#32
  let main_v26 : FVec F S64x4x512 .f32 := broadcastInDim S64x4x512 ![] bcast_S_S64x4x512 main_cst_5
  let main_v27 : IVec S64x4x512 1 := cmpf .ogt main_v15 main_v26
  let main_c_6 : IVec S_ 32 := constantI S_ 32 1#32
  let main_v28 : IVec S64x4x512 32 := broadcastInDim S64x4x512 ![] bcast_S_S64x4x512 main_c_6
  let main_v29 : IVec S64x4x512 1 := cmpi .eq main_v20 main_v28
  let main_v30 : IVec S64x4x512 1 := ori main_v27 main_v29
  let main_v31 : IVec S64x4x512 1 := andi main_v25 main_v30
  main_v31

def fn {F : FTy → Type} [FloatOps F] (main_arg0 : FVec F S64x4x512x10 .f32) (main_arg1 : FVec F S64x4x512x10 .f32) : IVec S64x4x512 1 :=
  let main_v0 : FVec F S64x4x512x4 .f32 := (extractStridedSlice S64x4x512x4 ![0, 0, 0, 5] · slices_S64x4x512x10_S64x4x512x4_0_0_0_5) main_arg0
  let main_v1 : FVec F S64x4x512x4 .f32 := (extractStridedSlice S64x4x512x4 ![0, 0, 0, 5] · slices_S64x4x512x10_S64x4x512x4_0_0_0_5) main_arg1
  let main_v2 : FVec F S64x4x512x1x4 .f32 := broadcastInDim S64x4x512x1x4 ![0, 1, 2, 4] bcast_S64x4x512x4_S64x4x512x1x4_0_1_2_4 main_v0
  let main_v3 : FVec F S64x4x1x512x4 .f32 := broadcastInDim S64x4x1x512x4 ![0, 1, 3, 4] bcast_S64x4x512x4_S64x4x1x512x4_0_1_3_4 main_v1
  let main_v4 : FVec F S64x4x512x512x4 .f32 := broadcastInDim S64x4x512x512x4 ![0, 1, 2, 3, 4] bcast_S64x4x512x1x4_S64x4x512x512x4_0_1_2_3_4 main_v2
  let main_v5 : FVec F S64x4x512x512x4 .f32 := broadcastInDim S64x4x512x512x4 ![0, 1, 2, 3, 4] bcast_S64x4x1x512x4_S64x4x512x512x4_0_1_2_3_4 main_v3
  let main_v6 : FVec F S64x4x512x512x4 .f32 := subf main_v4 main_v5
  let main_v7 : FVec F S64x4x512x512x4 .f32 := mulf main_v6 main_v6
  let main_cst : FVec F S_ .f32 := constant S_ .f32 0x00000000#32
  let main_v8 : FVec F S64x4x512x512 .f32 := (fun x v => Host.reduceAdd x v reducesTo_S64x4x512x512x4_S64x4x512x512_d4 h_S_) main_v7 main_cst
  let main_cst_0 : FVec F S_ .f32 := constant S_ .f32 0x7F800000#32
  let main_v9 : FVec F S64x4x512 .f32 := (fun x v => Host.reduce FloatOps.minimumf x v reducesTo_S64x4x512x512_S64x4x512_d2 h_S_) main_v8 main_cst_0
  let main_v10 : FVec F S64x4x1x512 .f32 := broadcastInDim S64x4x1x512 ![0, 1, 3] bcast_S64x4x512_S64x4x1x512_0_1_3 main_v9
  let main_v11 : FVec F S64x4x512x512 .f32 := broadcastInDim S64x4x512x512 ![0, 1, 2, 3] bcast_S64x4x1x512_S64x4x512x512_0_1_2_3 main_v10
  let main_v12 : IVec S64x4x512x512 1 := cmpf .oeq main_v8 main_v11
  let main_v13 : IVec S64x4x512x512 32 := (extui 32 · natLt_1_32) main_v12
  let main_c : IVec S_ 32 := constantI S_ 32 0#32
  let main_v14 : IVec S64x4x512 32 := (fun x v => Host.reduce IntOp.addi x v reducesTo_S64x4x512x512_S64x4x512_d2 h_S_) main_v13 main_c
  let main_cst_1 : FVec F S_ .f32 := constant S_ .f32 0x7F800000#32
  let main_v15 : FVec F S64x4x512 .f32 := (fun x v => Host.reduce FloatOps.minimumf x v reducesTo_S64x4x512x512_S64x4x512_d3 h_S_) main_v8 main_cst_1
  let main_v16 : FVec F S64x4x512x1 .f32 := broadcastInDim S64x4x512x1 ![0, 1, 2] bcast_S64x4x512_S64x4x512x1_0_1_2 main_v15
  let main_v17 : FVec F S64x4x512x512 .f32 := broadcastInDim S64x4x512x512 ![0, 1, 2, 3] bcast_S64x4x512x1_S64x4x512x512_0_1_2_3 main_v16
  let main_v18 : IVec S64x4x512x512 1 := cmpf .oeq main_v8 main_v17
  let main_v19 : IVec S64x4x512x512 32 := (extui 32 · natLt_1_32) main_v18
  fn_part1 (F := F) main_v9 main_v14 main_v15 main_v19
-- ==== Kernel.lean ====
abbrev S64x4x512x10 : Shape := ⟨4, ![64, 4, 512, 10]⟩
abbrev S64x4x512x2 : Shape := ⟨4, ![64, 4, 512, 2]⟩
abbrev S2x64x4x512 : Shape := ⟨4, ![2, 64, 4, 512]⟩
abbrev S64x4x512x4 : Shape := ⟨4, ![64, 4, 512, 4]⟩
abbrev S4x64x4x512 : Shape := ⟨4, ![4, 64, 4, 512]⟩
abbrev S64x1x1 : Shape := ⟨3, ![64, 1, 1]⟩
abbrev S64x1 : Shape := ⟨2, ![64, 1]⟩
abbrev S1x4x512x10 : Shape := ⟨4, ![1, 4, 512, 10]⟩
abbrev S2x1x4x512 : Shape := ⟨4, ![2, 1, 4, 512]⟩
abbrev S4x1x4x512 : Shape := ⟨4, ![4, 1, 4, 512]⟩
abbrev S1x1x1 : Shape := ⟨3, ![1, 1, 1]⟩
abbrev S1x1x512x10 : Shape := ⟨4, ![1, 1, 512, 10]⟩
abbrev S512x10 : Shape := ⟨2, ![512, 10]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩
abbrev S512 : Shape := ⟨1, ![512]⟩
abbrev S1x1x512 : Shape := ⟨3, ![1, 1, 512]⟩
abbrev S1 : Shape := ⟨1, ![1]⟩

abbrev nBuf : Space → Nat
  | .hbm => 8
  | .vmem => 8
  | .smem => 0
  | _ => 0

abbrev bufTy : (tb : Table) → Fin (tcTables nBuf tb) → BufTy
  | .hbm, ⟨0, _⟩ => ⟨S64x4x512x10, .f32⟩
  | .hbm, ⟨1, _⟩ => ⟨S64x4x512x10, .f32⟩
  | .hbm, ⟨2, _⟩ => ⟨S64x4x512x2, .f32⟩
  | .hbm, ⟨3, _⟩ => ⟨S2x64x4x512, .f32⟩
  | .hbm, ⟨4, _⟩ => ⟨S64x4x512x4, .f32⟩
  | .hbm, ⟨5, _⟩ => ⟨S4x64x4x512, .f32⟩
  | .hbm, ⟨6, _⟩ => ⟨S64x1x1, .f32⟩
  | .hbm, ⟨7, _⟩ => ⟨S64x1, .f32⟩
  | .local _ .vmem, ⟨0, _⟩ => ⟨S1x4x512x10, .f32⟩
  | .local _ .vmem, ⟨1, _⟩ => ⟨S1x4x512x10, .f32⟩
  | .local _ .vmem, ⟨2, _⟩ => ⟨S2x1x4x512, .f32⟩
  | .local _ .vmem, ⟨3, _⟩ => ⟨S2x1x4x512, .f32⟩
  | .local _ .vmem, ⟨4, _⟩ => ⟨S4x1x4x512, .f32⟩
  | .local _ .vmem, ⟨5, _⟩ => ⟨S4x1x4x512, .f32⟩
  | .local _ .vmem, ⟨6, _⟩ => ⟨S1x1x1, .f32⟩
  | .local _ .vmem, ⟨7, _⟩ => ⟨S1x1x1, .f32⟩
  | _, _ => ⟨S64x4x512x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x4x512x10 : Shape := ⟨4, ![64, 4, 512, 10]⟩
abbrev S64x4x512x1 : Shape := ⟨4, ![64, 4, 512, 1]⟩
abbrev S64x4x512 : Shape := ⟨3, ![64, 4, 512]⟩
abbrev S_ : Shape := ⟨0, ![]⟩
abbrev S64x4x512x512 : Shape := ⟨4, ![64, 4, 512, 512]⟩
abbrev S64x4x512x2 : Shape := ⟨4, ![64, 4, 512, 2]⟩
abbrev S64x4x512x4 : Shape := ⟨4, ![64, 4, 512, 4]⟩
abbrev S64x4x512x1x4 : Shape := ⟨5, ![64, 4, 512, 1, 4]⟩
abbrev S64x4x1x512x4 : Shape := ⟨5, ![64, 4, 1, 512, 4]⟩
abbrev S64x4x512x512x4 : Shape := ⟨5, ![64, 4, 512, 512, 4]⟩
abbrev S64x4x512x2x1 : Shape := ⟨5, ![64, 4, 512, 2, 1]⟩
abbrev S1 : Shape := ⟨1, ![1]⟩
abbrev S1x1x1x1x1 : Shape := ⟨5, ![1, 1, 1, 1, 1]⟩
abbrev S64x4 : Shape := ⟨2, ![64, 4]⟩
abbrev S64 : Shape := ⟨1, ![64]⟩
abbrev S64x1 : Shape := ⟨2, ![64, 1]⟩

abbrev nBuf : Space → Nat
  | .hbm => 178
  | .vmem => 0
  | .smem => 0
  | _ => 0

abbrev hbmTy0_0 (i : Nat) : BufTy := match i % 128 with
  | 0 => ⟨S64x4x512x10, .f32⟩
  | 1 => ⟨S64x4x512x10, .f32⟩
  | 2 => ⟨S64x4x512x1, .f32⟩
  | 3 => ⟨S64x4x512, .f32⟩
  | 4 => ⟨S_, .f32⟩
  | 5 => ⟨S64x4x512, .f32⟩
  | 6 => ⟨S_, .f32⟩
  | 7 => ⟨S64x4x512, .f32⟩
  | 8 => ⟨S64x4x512, .i1⟩
  | 9 => ⟨S64x4x512x1, .f32⟩
  | 10 => ⟨S64x4x512, .f32⟩
  | 11 => ⟨S_, .f32⟩
  | 12 => ⟨S64x4x512, .f32⟩
  | 13 => ⟨S_, .f32⟩
  | 14 => ⟨S64x4x512, .f32⟩
  | 15 => ⟨S64x4x512, .i1⟩
  | 16 => ⟨S64x4x512x1, .i1⟩
  | 17 => ⟨S64x4x512x512, .i1⟩
  | 18 => ⟨S64x4x512x1, .i1⟩
  | 19 => ⟨S64x4x512x512, .i1⟩
  | 20 => ⟨S64x4x512x512, .i1⟩
  | 21 => ⟨S64x4x512x512, .i1⟩
  | 22 => ⟨S64x4x512x2, .f32⟩
  | 23 => ⟨S64x4x512x2, .f32⟩
  | 24 => ⟨S64x4x512x4, .f32⟩
  | 25 => ⟨S64x4x512x4, .f32⟩
  | 26 => ⟨S64x4x512x1x4, .f32⟩
  | 27 => ⟨S64x4x1x512x4, .f32⟩
  | 28 => ⟨S64x4x512x512x4, .f32⟩
  | 29 => ⟨S64x4x512x512x4, .f32⟩
  | 30 => ⟨S64x4x512x512x4, .f32⟩
  | 31 => ⟨S64x4x512x512x4, .f32⟩
  | 32 => ⟨S_, .f32⟩
  | 33 => ⟨S64x4x512x512, .f32⟩
  | 34 => ⟨S_, .f32⟩
  | 35 => ⟨S_, .f32⟩
  | 36 => ⟨S64x4x512x512, .f32⟩
  | 37 => ⟨S64x4x512x512, .f32⟩
  | 38 => ⟨S_, .f32⟩
  | 39 => ⟨S64x4x512, .f32⟩
  | 40 => ⟨S64x4x512x512, .i32⟩
  | 41 => ⟨S_, .f32⟩
  | 42 => ⟨S_, .i32⟩
  | 43 => ⟨S64x4x512, .f32⟩
  | 44 => ⟨S64x4x512, .i32⟩
  | 45 => ⟨S_, .f32⟩
  | 46 => ⟨S64x4x512, .f32⟩
  | 47 => ⟨S64x4x512, .i1⟩
  | 48 => ⟨S64x4x512x1, .i32⟩
  | 49 => ⟨S64x4x512x2, .i32⟩
  | 50 => ⟨S_, .i32⟩
  | 51 => ⟨S64x4x512x2, .i32⟩
  | 52 => ⟨S64x4x512x2, .i1⟩
  | 53 => ⟨S_, .i32⟩
  | 54 => ⟨S64x4x512x2, .i32⟩
  | 55 => ⟨S64x4x512x2, .i32⟩
  | 56 => ⟨S64x4x512x2, .i32⟩
  | 57 => ⟨S64x4x512x2x1, .i32⟩
  | 58 => ⟨S1, .i32⟩
  | 59 => ⟨S_, .i32⟩
  | 60 => ⟨S64x4x512x2x1, .i32⟩
  | 61 => ⟨S64x4x512x2x1, .i1⟩
  | 62 => ⟨S1x1x1x1x1, .i32⟩
  | 63 => ⟨S64x4x512x2x1, .i32⟩
  | 64 => ⟨S64x4x512x2x1, .i1⟩
  | 65 => ⟨S64x4x512x2x1, .i1⟩
  | 66 => ⟨S_, .i1⟩
  | 67 => ⟨S64x4x512x2, .i1⟩
  | 68 => ⟨S64x4x512x2, .f32⟩
  | 69 => ⟨S_, .f32⟩
  | 70 => ⟨S64x4x512x2, .f32⟩
  | 71 => ⟨S64x4x512x2, .f32⟩
  | 72 => ⟨S64x4x512x2, .f32⟩
  | 73 => ⟨S64x4x512x2, .f32⟩
  | 74 => ⟨S_, .f32⟩
  | 75 => ⟨S64x4x512, .f32⟩
  | 76 => ⟨S64x4x512, .f32⟩
  | 77 => ⟨S_, .f32⟩
  | 78 => ⟨S_, .f32⟩
  | 79 => ⟨S64x4x512, .f32⟩
  | 80 => ⟨S64x4x512, .f32⟩
  | 81 => ⟨S_, .f32⟩
  | 82 => ⟨S_, .f32⟩
  | 83 => ⟨S64x4x512, .f32⟩
  | 84 => ⟨S64x4x512, .f32⟩
  | 85 => ⟨S64x4x512, .i1⟩
  | 86 => ⟨S64x4x512, .i32⟩
  | 87 => ⟨S_, .i32⟩
  | 88 => ⟨S64x4, .i32⟩
  | 89 => ⟨S_, .i32⟩
  | 90 => ⟨S64x4, .i32⟩
  | 91 => ⟨S64x4, .i32⟩
  | 92 => ⟨S_, .f32⟩
  | 93 => ⟨S64x4, .f32⟩
  | 94 => ⟨S64x4, .f32⟩
  | 95 => ⟨S64x4, .f32⟩
  | 96 => ⟨S64x4, .f32⟩
  | 97 => ⟨S_, .f32⟩
  | 98 => ⟨S64x4x512, .f32⟩
  | 99 => ⟨S64x4x512x512, .i32⟩
  | 100 => ⟨S_, .f32⟩
  | 101 => ⟨S_, .i32⟩
  | 102 => ⟨S64x4x512, .f32⟩
  | 103 => ⟨S64x4x512, .i32⟩
  | 104 => ⟨S_, .f32⟩
  | 105 => ⟨S64x4x512, .f32⟩
  | 106 => ⟨S64x4x512, .i1⟩
  | 107 => ⟨S64x4x512x1, .i32⟩
  | 108 => ⟨S64x4x512x2, .i32⟩
  | 109 => ⟨S_, .i32⟩
  | 110 => ⟨S64x4x512x2, .i32⟩
  | 111 => ⟨S64x4x512x2, .i1⟩
  | 112 => ⟨S_, .i32⟩
  | 113 => ⟨S64x4x512x2, .i32⟩
  | 114 => ⟨S64x4x512x2, .i32⟩
  | 115 => ⟨S64x4x512x2, .i32⟩
  | 116 => ⟨S64x4x512x2x1, .i32⟩
  | 117 => ⟨S1, .i32⟩
  | 118 => ⟨S_, .i32⟩
  | 119 => ⟨S64x4x512x2x1, .i32⟩
  | 120 => ⟨S64x4x512x2x1, .i1⟩
  | 121 => ⟨S1x1x1x1x1, .i32⟩
  | 122 => ⟨S64x4x512x2x1, .i32⟩
  | 123 => ⟨S64x4x512x2x1, .i1⟩
  | 124 => ⟨S64x4x512x2x1, .i1⟩
  | 125 => ⟨S_, .i1⟩
  | 126 => ⟨S64x4x512x2, .i1⟩
  | 127 => ⟨S64x4x512x2, .f32⟩
  | _ => ⟨S64x4x512x10, .f32⟩

abbrev hbmTy0_1 (i : Nat) : BufTy := match i % 128 with
  | 0 => ⟨S_, .f32⟩
  | 1 => ⟨S64x4x512x2, .f32⟩
  | 2 => ⟨S64x4x512x2, .f32⟩
  | 3 => ⟨S64x4x512x2, .f32⟩
  | 4 => ⟨S64x4x512x2, .f32⟩
  | 5 => ⟨S_, .f32⟩
  | 6 => ⟨S64x4x512, .f32⟩
  | 7 => ⟨S64x4x512, .f32⟩
  | 8 => ⟨S_, .f32⟩
  | 9 => ⟨S_, .f32⟩
  | 10 => ⟨S64x4x512, .f32⟩
  | 11 => ⟨S64x4x512, .f32⟩
  | 12 => ⟨S_, .f32⟩
  | 13 => ⟨S_, .f32⟩
  | 14 => ⟨S64x4x512, .f32⟩
  | 15 => ⟨S64x4x512, .f32⟩
  | 16 => ⟨S64x4x512, .i1⟩
  | 17 => ⟨S64x4x512, .i32⟩
  | 18 => ⟨S_, .i32⟩
  | 19 => ⟨S64x4, .i32⟩
  | 20 => ⟨S_, .i32⟩
  | 21 => ⟨S64x4, .i32⟩
  | 22 => ⟨S64x4, .i32⟩
  | 23 => ⟨S_, .f32⟩
  | 24 => ⟨S64x4, .f32⟩
  | 25 => ⟨S64x4, .f32⟩
  | 26 => ⟨S64x4, .f32⟩
  | 27 => ⟨S64x4, .f32⟩
  | 28 => ⟨S64x4, .f32⟩
  | 29 => ⟨S_, .f32⟩
  | 30 => ⟨S64x4, .f32⟩
  | 31 => ⟨S64x4, .f32⟩
  | 32 => ⟨S_, .i1⟩
  | 33 => ⟨S64x4, .i1⟩
  | 34 => ⟨S_, .i1⟩
  | 35 => ⟨S64x4, .i1⟩
  | 36 => ⟨S64x4, .i1⟩
  | 37 => ⟨S_, .f32⟩
  | 38 => ⟨S_, .f32⟩
  | 39 => ⟨S64x4, .f32⟩
  | 40 => ⟨S64x4, .f32⟩
  | 41 => ⟨S_, .f32⟩
  | 42 => ⟨S64, .f32⟩
  | 43 => ⟨S_, .f32⟩
  | 44 => ⟨S64, .f32⟩
  | 45 => ⟨S64, .f32⟩
  | 46 => ⟨S64x1, .f32⟩
  | 47 => ⟨S_, .f32⟩
  | 48 => ⟨S64x1, .f32⟩
  | 49 => ⟨S64x1, .f32⟩
  | _ => ⟨S64x4x512x10, .f32⟩

abbrev hbmTy (i : Nat) : BufTy := match i / 128 with
  | 0 => hbmTy0_0 i
  | 1 => hbmTy0_1 i
  | _ => ⟨S64x4x512x10, .f32⟩

abbrev bufTy : (tb : Table) → Fin (tcTables nBuf tb) → BufTy
  | .hbm, ⟨i, _⟩ => hbmTy i
  | _, _ => ⟨S64x4x512x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_call1_v0 : Ref sig .tc := ⟨.hbm, 40, rfl⟩
abbrev main_call1_cst : Ref sig .tc := ⟨.hbm, 41, rfl⟩
abbrev main_call1_c : Ref sig .tc := ⟨.hbm, 42, rfl⟩
abbrev main_call1_v1_0 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v34 : Ref sig .tc := ⟨.hbm, 71, rfl⟩
abbrev main_v35 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_v36 : Ref sig .tc := ⟨.hbm, 76, rfl⟩
abbrev main_cst_7 : Ref sig .tc := ⟨.hbm, 77, rfl⟩
abbrev main_call4_v0 : Ref sig .tc := ⟨.hbm, 78, rfl⟩
abbrev main_call4_v1 : Ref sig .tc := ⟨.hbm, 79, rfl⟩
abbrev main_v37 : Ref sig .tc := ⟨.hbm, 80, rfl⟩
abbrev main_cst_8 : Ref sig .tc := ⟨.hbm, 81, rfl⟩
abbrev main_call5_v0 : Ref sig .tc := ⟨.hbm, 82, rfl⟩
abbrev main_call5_v1 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c : Ref sig .tc := ⟨.hbm, 87, rfl⟩
abbrev main_v41 : Ref sig .tc := ⟨.hbm, 88, rfl⟩
abbrev main_c_9 : Ref sig .tc := ⟨.hbm, 89, rfl⟩
abbrev main_v42 : Ref sig .tc := ⟨.hbm, 90, rfl⟩
abbrev main_v43 : Ref sig .tc := ⟨.hbm, 91, rfl⟩
abbrev main_cst_10 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_11 : Ref sig .tc := ⟨.hbm, 97, rfl⟩
abbrev main_v48 : Ref sig .tc := ⟨.hbm, 98, rfl⟩
abbrev main_call6_v0 : Ref sig .tc := ⟨.hbm, 99, rfl⟩
abbrev main_call6_cst : Ref sig .tc := ⟨.hbm, 100, rfl⟩
abbrev main_call6_c : Ref sig .tc := ⟨.hbm, 101, rfl⟩
abbrev main_call6_v1_0 : Ref sig .tc := ⟨.hbm, 102, rfl⟩
abbrev main_v49 : Ref sig .tc := ⟨.hbm, 103, rfl⟩
abbrev main_cst_12 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_call7_c : Ref sig .tc := ⟨.hbm, 109, rfl⟩
abbrev main_call7_v0 : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_v5 : Ref sig .tc := ⟨.hbm, 116, rfl⟩
abbrev main_call7_c_1 : Ref sig .tc := ⟨.hbm, 117, rfl⟩
abbrev main_call7_c_2 : Ref sig .tc := ⟨.hbm, 118, rfl⟩
abbrev main_call7_v6 : Ref sig .tc := ⟨.hbm, 119, rfl⟩
abbrev main_call7_v7 : Ref sig .tc := ⟨.hbm, 120, rfl⟩
abbrev main_call7_v8 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_c_3 : Ref sig .tc := ⟨.hbm, 125, rfl⟩
abbrev main_call7_v12 : Ref sig .tc := ⟨.hbm, 126, rfl⟩
abbrev main_call7_v13 : Ref sig .tc := ⟨.hbm, 127, rfl⟩
abbrev main_call7_cst : Ref sig .tc := ⟨.hbm, 128, rfl⟩
abbrev main_call7_v14 : Ref sig .tc := ⟨.hbm, 129, rfl⟩
abbrev main_v54 : Ref sig .tc := ⟨.hbm, 130, rfl⟩
abbrev main_v55 : Ref sig .tc := ⟨.hbm, 131, rfl⟩
abbrev main_call8_v0 : Ref sig .tc := ⟨.hbm, 132, rfl⟩
abbrev main_call8_cst : Ref sig .tc := ⟨.hbm, 133, rfl⟩
abbrev main_call8_v1 : Ref sig .tc := ⟨.hbm, 134, rfl⟩
abbrev main_v56 : Ref sig .tc := ⟨.hbm, 135, rfl⟩
abbrev main_cst_13 : Ref sig .tc := ⟨.hbm, 136, rfl⟩
abbrev main_call9_v0 : Ref sig .tc := ⟨.hbm, 137, rfl⟩
abbrev main_call9_v1 : Ref sig .tc := ⟨.hbm, 138, rfl⟩
abbrev main_v57 : Ref sig .tc := ⟨.hbm, 139, rfl⟩
abbrev main_cst_14 : Ref sig .tc := ⟨.hbm, 140, rfl⟩
abbrev main_call10_v0 : Ref sig .tc := ⟨.hbm, 141, rfl⟩
abbrev main_call10_v1 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_c_15 : Ref sig .tc := ⟨.hbm, 146, rfl⟩
abbrev main_v61 : Ref sig .tc := ⟨.hbm, 147, rfl⟩
abbrev main_c_16 : Ref sig .tc := ⟨.hbm, 148, rfl⟩
abbrev main_v62 : Ref sig .tc := ⟨.hbm, 149, rfl⟩
abbrev main_v63 : Ref sig .tc := ⟨.hbm, 150, rfl⟩
abbrev main_cst_17 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_cst_18 : Ref sig .tc := ⟨.hbm, 157, rfl⟩
abbrev main_v69 : Ref sig .tc := ⟨.hbm, 158, rfl⟩
abbrev main_v70 : Ref sig .tc := ⟨.hbm, 159, rfl⟩
abbrev main_c_19 : Ref sig .tc := ⟨.hbm, 160, rfl⟩
abbrev main_v71 : Ref sig .tc := ⟨.hbm, 161, rfl⟩
abbrev main_c_20 : Ref sig .tc := ⟨.hbm, 162, rfl⟩
abbrev main_v72 : Ref sig .tc := ⟨.hbm, 163, rfl⟩
abbrev main_v73 : Ref sig .tc := ⟨.hbm, 164, rfl⟩
abbrev main_cst_21 : Ref sig .tc := ⟨.hbm, 165, rfl⟩
abbrev main_call11_v0 : Ref sig .tc := ⟨.hbm, 166, rfl⟩
abbrev main_call11_v1 : Ref sig .tc := ⟨.hbm, 167, rfl⟩
abbrev main_v74 : Ref sig .tc := ⟨.hbm, 168, rfl⟩
abbrev main_cst_22 : Ref sig .tc := ⟨.hbm, 169, rfl⟩
abbrev main_v75 : Ref sig .tc := ⟨.hbm, 170, rfl⟩
abbrev main_cst_23 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_cst_24 : Ref sig .tc := ⟨.hbm, 175, rfl⟩
abbrev main_v79 : Ref sig .tc := ⟨.hbm, 176, rfl⟩
abbrev main_v80 : Ref sig .tc := ⟨.hbm, 177, rfl⟩

abbrev nD : Nat := 1
abbrev τ : Topo := Topo.v7x

variable {F : FTy → Type} [FloatOps F]
-- ==== Proof.Value.Near.lean ====
module

public import Idealize.ShloMosaic.PureOps.Ideal.Laws
public import Idealize.ShloMosaic.Lib.Pointwise

/-! # One direction of the chamfer term, as extended reals

`near P D` is what one particle contributes: `P j` is its latent distance to particle `j` of the other set, `D j` the
squared distance of their positions. Also the float constants of the two programs as extended reals. -/

@[expose] public section

noncomputable section

namespace Cert.Chamfer

open Idealize.ShloMosaic

/-- The least of a family of extended reals, `⊤` of none. -/
def least {n : ℕ} (P : Fin n → EReal) : EReal := Finset.univ.fold min ⊤ P

/-- What one particle contributes: 1 if no particle of the other set is within the threshold 6, else the square root of
    the squared position distances summed over the particles at the least latent distance. -/
def near {n : ℕ} (P D : Fin n → EReal) : EReal :=
  if ((6 : ℝ) : EReal) < least P then 1 else Ideal.sqrt (∑ j, if P j = least P then D j else 0)

/-- No particle of the other set is within the threshold, or one of them alone is nearest. -/
def Settled {n : ℕ} (P : Fin n → EReal) : Prop := ((6 : ℝ) : EReal) < least P ∨ ∃ k, ∀ i, P i = least P ↔ i = k

/-- A squared difference. -/
def sqDiff (a b : EReal) : EReal := (a - b) * (a - b)

/-- The latent distance of two particles with features `a` and `b`: over features 5 to 8. -/
def latentDist (a b : Fin 10 → EReal) : EReal := sqDiff (a 5) (b 5) + sqDiff (a 6) (b 6) + sqDiff (a 7) (b 7) + sqDiff (a 8) (b 8)

/-- The squared distance of their positions: over features 0 and 1. -/
def placeDist (a b : Fin 10 → EReal) : EReal := sqDiff (a 0) (b 0) + sqDiff (a 1) (b 1)

/-- The two terms at lane `l` of one view, whose goal particles have the features `g` and whose state particles `s`: of
    goal particle `l` over the states and of state particle `l` over the goals. -/
def pairTerm {n : ℕ} (g s : Fin n → Fin 10 → EReal) (l : Fin n) : EReal :=
  near (fun j => latentDist (g l) (s j)) (fun j => placeDist (g l) (s j))
    + near (fun i => latentDist (g i) (s l)) (fun i => placeDist (g i) (s l))

/-- The least value is below every value. -/
theorem least_le {n : ℕ} (P : Fin n → EReal) (i : Fin n) : least P ≤ P i := by
  unfold least
  exact (Finset.fold_min_le _).2 (.inr ⟨i, Finset.mem_univ i, le_rfl⟩)

/-- A squared difference does not depend on the order, of infinities neither. -/
theorem sqDiff_comm (a b : EReal) : sqDiff a b = sqDiff b a := by
  unfold sqDiff
  induction a using EReal.rec <;> induction b using EReal.rec <;> first | rfl | skip
  rw [← EReal.coe_sub, ← EReal.coe_sub, ← EReal.coe_mul, ← EReal.coe_mul]
  congr 1; ring

/-- A latent distance does not depend on the order. -/
theorem latentDist_comm (a b : Fin 10 → EReal) : latentDist a b = latentDist b a := by
  simp only [latentDist, sqDiff_comm (a _)]

/-- The squared distance of two positions does not depend on the order. -/
theorem placeDist_comm (a b : Fin 10 → EReal) : placeDist a b = placeDist b a := by
  simp only [placeDist, sqDiff_comm (a _)]

/-- A squared difference is not negative. -/
theorem sqDiff_nonneg (a b : EReal) : 0 ≤ sqDiff a b := by
  unfold sqDiff
  rcases le_total 0 (a - b) with h | h
  · exact mul_nonneg h h
  · rw [← neg_mul_neg]
    exact mul_nonneg (EReal.neg_nonneg.2 h) (EReal.neg_nonneg.2 h)

/-- Where nothing is within the threshold the term is 1. -/
theorem near_of_far {n : ℕ} (P D : Fin n → EReal) (h : ((6 : ℝ) : EReal) < least P) : near P D = 1 := if_pos h

/-- Where something is and `k` alone is nearest, the term is the distance of the position of `k`. -/
theorem near_of_unique {n : ℕ} (P D : Fin n → EReal) (h : ¬ ((6 : ℝ) : EReal) < least P) (k : Fin n) (hk : ∀ i, P i = least P ↔ i = k) :
    near P D = Ideal.sqrt (D k) := by
  rw [near, if_neg h]
  simp only [hk, Finset.sum_ite_eq', Finset.mem_univ, if_true]

/-- A position distance is not negative. -/
theorem placeDist_nonneg (a b : Fin 10 → EReal) : 0 ≤ placeDist a b := add_nonneg (sqDiff_nonneg _ _) (sqDiff_nonneg _ _)

/-- The square root of what is not negative is not negative. -/
theorem sqrt_nonneg (a : EReal) (h : 0 ≤ a) : 0 ≤ Ideal.sqrt a := by
  induction a using EReal.rec with
  | bot => exact absurd h (by simp)
  | top => simp
  | coe r => rw [Ideal.sqrt_coe, if_neg (not_lt.2 (EReal.coe_nonneg.1 h))]; exact EReal.coe_nonneg.2 (Real.sqrt_nonneg r)

/-- A term of distances that are not negative is not negative. -/
theorem near_nonneg {n : ℕ} (P D : Fin n → EReal) (hD : ∀ j, 0 ≤ D j) : 0 ≤ near P D := by
  unfold near
  split_ifs
  · exact zero_le_one
  · refine sqrt_nonneg _ (Finset.sum_nonneg fun j _ => ?_)
    split_ifs
    · exact hD j
    · exact le_rfl

/-- The pattern `0x7F800000` is plus infinity. -/
theorem ofBits_infinity : Ideal.ofBits .f32 0x7F800000#32 = (⊤ : EReal) := by
  simp [Ideal.ofBits, Ideal.ieee]

/-- The pattern `0x40C00000` is six. -/
theorem ofBits_six : Ideal.ofBits .f32 0x40C00000#32 = ((6 : ℝ) : EReal) := by
  simp [Ideal.ofBits, Ideal.ieee, -EReal.coe_mul, -EReal.coe_neg]; norm_num

/-- The pattern `0xB9800000` is minus one part in 4096. -/
theorem ofBits_scale : Ideal.ofBits .f32 0xB9800000#32 = ((-(1 / 4096) : ℝ) : EReal) := by
  simp [Ideal.ofBits, Ideal.ieee, -EReal.coe_mul, -EReal.coe_neg]; norm_num

/-- The pattern `0x40000000` is two. -/
theorem ofBits_two : Ideal.ofBits .f32 0x40000000#32 = ((2 : ℝ) : EReal) := by
  simp [Ideal.ofBits, Ideal.ieee, -EReal.coe_mul, -EReal.coe_neg]; norm_num

/-- The pattern `0x40800000` is four. -/
theorem ofBits_four : Ideal.ofBits .f32 0x40800000#32 = ((4 : ℝ) : EReal) := by
  simp [Ideal.ofBits, Ideal.ieee, -EReal.coe_mul, -EReal.coe_neg]; norm_num

end Cert.Chamfer

end
-- ==== Proof.Value.Block.lean ====
module

public import proofs.«01_k».proof.Proof.Gen.KernelIdeal.Frame
public import proofs.«01_k».proof.Proof.Value.Near

/-! # What the kernel's body computes of one batch

The body's vectors by name, from a column of the goal block up to the element it stores, for any float values. -/

@[expose] public section

set_option maxRecDepth 16384

noncomputable section

namespace Cert.KernelIdeal.Block

open Cert.KernelIdeal Cert.KernelIdeal.Gen Idealize.ShloMosaic Cert.Chamfer

section AnyFloat

variable {F : FTy → Type} [FloatOps F]

/-- A column of the goal block against a row of the state block: the squared differences, goal by state. -/
def sqd (col : FVec F S512x1 .f32) (row : Vec F S1x1x1x512 .f32) : FVec F S512x512 .f32 :=
  mulf (subf (broadcastTo S512x512 col broadcasts_S512x1_S512x512)
      (broadcastTo S512x512 (shapeCast S1x512 row shapeCasts_S1x1x1x512_S1x512) broadcasts_S1x512_S512x512))
    (subf (broadcastTo S512x512 col broadcasts_S512x1_S512x512)
      (broadcastTo S512x512 (shapeCast S1x512 row shapeCasts_S1x1x1x512_S1x512) broadcasts_S1x512_S512x512))

/-- The latent distances of one view, goal by state: features 5 to 8. -/
def latent (g : FVec F S512x10 .f32) (r5 r6 r7 r8 : Vec F S1x1x1x512 .f32) : FVec F S512x512 .f32 :=
  addf (addf (addf
    (sqd (extractStridedSlice S512x1 ![0, 5] g slices_S512x10_o0_5_S512x1) r5)
    (sqd (extractStridedSlice S512x1 ![0, 6] g slices_S512x10_o0_6_S512x1) r6))
    (sqd (extractStridedSlice S512x1 ![0, 7] g slices_S512x10_o0_7_S512x1) r7))
    (sqd (extractStridedSlice S512x1 ![0, 8] g slices_S512x10_o0_8_S512x1) r8)

/-- The squared position distances of one view, goal by state: features 0 and 1. -/
def place (g : FVec F S512x10 .f32) (r0 r1 : Vec F S1x1x1x512 .f32) : FVec F S512x512 .f32 :=
  addf (sqd (extractStridedSlice S512x1 ![0, 0] g slices_S512x10_o0_0_S512x1) r0)
    (sqd (extractStridedSlice S512x1 ![0, 1] g slices_S512x10_o0_1_S512x1) r1)

/-- The goal particles' least latent distance, over the states. -/
def goalLeast (P : FVec F S512x512 .f32) : FVec F S512x1 .f32 :=
  shapeCast S512x1 (multiReduction .minimumf [1] S512 P 0x7F800000#32 reduces_S512x512_S512 (.inl rfl) rfl) shapeCasts_S512_S512x1

/-- The goal particles' terms, as a row. -/
def goalSide (P D : FVec F S512x512 .f32) : FVec F S1x512 .f32 :=
  select (cmpf .ogt (shapeCast S1x512 (goalLeast P) shapeCasts_S512x1_S1x512) (broadcast S1x512 (Scalar.ofBits .f32 0x40C00000#32)))
    (broadcast S1x512 (Scalar.ofBits .f32 0x3F800000#32))
    (sqrt (shapeCast S1x512 (shapeCast S512x1 (multiReduction .add [1] S512
      (select (cmpf .oeq P (broadcastTo S512x512 (goalLeast P) broadcasts_S512x1_S512x512)) D (broadcast S512x512 (Scalar.ofBits .f32 0x00000000#32)))
      0x00000000#32 reduces_S512x512_S512 (.inl rfl) rfl) shapeCasts_S512_S512x1) shapeCasts_S512x1_S1x512))

/-- The state particles' least latent distance, over the goals. -/
def stateLeast (P : FVec F S512x512 .f32) : FVec F S1x512 .f32 :=
  shapeCast S1x512 (multiReduction .minimumf [0] S512 P 0x7F800000#32 reduces_S512x512_S512_2 (.inl rfl) rfl) shapeCasts_S512_S1x512

/-- The state particles' terms, as a row. -/
def stateSide (P D : FVec F S512x512 .f32) : FVec F S1x512 .f32 :=
  select (cmpf .ogt (stateLeast P) (broadcast S1x512 (Scalar.ofBits .f32 0x40C00000#32)))
    (broadcast S1x512 (Scalar.ofBits .f32 0x3F800000#32))
    (sqrt (shapeCast S1x512 (multiReduction .add [0] S512
      (select (cmpf .oeq P (broadcastTo S512x512 (stateLeast P) broadcasts_S1x512_S512x512)) D (broadcast S512x512 (Scalar.ofBits .f32 0x00000000#32)))
      0x00000000#32 reduces_S512x512_S512_2 (.inl rfl) rfl) shapeCasts_S512_S1x512))

/-- One view's row of terms, from the goal block's view and the six rows of the state's. -/
def viewRow (g : Vec F S1x1x512x10 .f32) (r5 r6 r7 r8 r0 r1 : Vec F S1x1x1x512 .f32) : FVec F S1x512 .f32 :=
  addf (goalSide (latent (shapeCast S512x10 g shapeCasts_S1x1x512x10_S512x10) r5 r6 r7 r8) (place (shapeCast S512x10 g shapeCasts_S1x1x512x10_S512x10) r0 r1))
    (stateSide (latent (shapeCast S512x10 g shapeCasts_S1x1x512x10_S512x10) r5 r6 r7 r8) (place (shapeCast S512x10 g shapeCasts_S1x1x512x10_S512x10) r0 r1))

/-- The four views' rows added up, summed over the lanes and scaled: the one element the body stores. -/
def total (s : FVec F S1x512 .f32) : F .f32 :=
  Scalar.mulf (extractAt ![0, 0, 0] (shapeCast S1x1x1 (multiReduction .add [1, 2] S1
    (shapeCast S1x1x512 s shapeCasts_S1x512_S1x1x512) 0x00000000#32 reduces_S1x1x512_S1 (.inl rfl) rfl) shapeCasts_S1_S1x1x1) inpos_S1x1x1_p0_0_0)
    (Scalar.ofBits .f32 0xB9800000#32)

/-- The row of terms the body sums: the four views' rows, added in order. -/
def rows (x0 : Vec F S1x4x512x10 .f32) (x1 : Vec F S2x1x4x512 .f32) (x2 : Vec F S4x1x4x512 .f32) : FVec F S1x512 .f32 :=
  addf (addf (addf
    (viewRow (View.ld x0 r0_0) (View.ld x2 r0_1) (View.ld x2 r0_2) (View.ld x2 r0_3) (View.ld x2 r0_4) (View.ld x1 r0_5) (View.ld x1 r0_6))
    (viewRow (View.ld x0 r0_7) (View.ld x2 r0_8) (View.ld x2 r0_9) (View.ld x2 r0_10) (View.ld x2 r0_11) (View.ld x1 r0_12) (View.ld x1 r0_13)))
    (viewRow (View.ld x0 r0_14) (View.ld x2 r0_15) (View.ld x2 r0_16) (View.ld x2 r0_17) (View.ld x2 r0_18) (View.ld x1 r0_19) (View.ld x1 r0_20)))
    (viewRow (View.ld x0 r0_21) (View.ld x2 r0_22) (View.ld x2 r0_23) (View.ld x2 r0_24) (View.ld x2 r0_25) (View.ld x1 r0_26) (View.ld x1 r0_27))

/-- The first view's payloads are `viewRow` of what the body loads for it. -/
theorem view0_eq (g : Vec F S1x1x512x10 .f32) (r5 r6 r7 r8 r0 r1 : Vec F S1x1x1x512 .f32) :
    k0_pay4 (k0_pay1 g) (k0_pay2 g r5 r6 r7 r8) (k0_pay3 g) r0 r1 = viewRow g r5 r6 r7 r8 r0 r1 := rfl

/-- The second view's payloads add its `viewRow` to the row so far. -/
theorem view1_eq (s : FVec F S1x512 .f32) (g : Vec F S1x1x512x10 .f32) (r5 r6 r7 r8 r0 r1 : Vec F S1x1x1x512 .f32) :
    k0_pay9 s (k0_pay6 g r5 r6 r7 r8) (k0_pay7 g r0) (k0_pay8 g) r1 = addf s (viewRow g r5 r6 r7 r8 r0 r1) := rfl

/-- The third view's likewise. -/
theorem view2_eq (s : FVec F S1x512 .f32) (g : Vec F S1x1x512x10 .f32) (r5 r6 r7 r8 r0 r1 : Vec F S1x1x1x512 .f32) :
    k0_pay15 s (k0_pay12 (k0_pay10 g) (k0_pay11 g) r5 r6 r7 r8) (k0_pay13 (k0_pay10 g) r0) (k0_pay14 (k0_pay10 g)) r1 = addf s (viewRow g r5 r6 r7 r8 r0 r1) := rfl

/-- The fourth view's likewise; what is stored is the total of the row. -/
theorem view3_eq (s : FVec F S1x512 .f32) (g : Vec F S1x1x512x10 .f32) (r5 r6 r7 r8 r0 r1 : Vec F S1x1x1x512 .f32) :
    k0_pay22 s (k0_pay18 (k0_pay16 g) (k0_pay17 g) r5 r6 r7 r8) (k0_pay19 (k0_pay16 g) r0) (k0_pay20 (k0_pay16 g)) (k0_pay21 r1)
      = broadcast S1x1x1 (total (addf s (viewRow g r5 r6 r7 r8 r0 r1))) := rfl

/-- What the body leaves in the output's block is the total of the four views' rows. -/
theorem out_eq (x0 : Vec F S1x4x512x10 .f32) (x1 : Vec F S2x1x4x512 .f32) (x2 : Vec F S4x1x4x512 .f32) (y : S1x1x1.Idx) :
    out0_3 x0 x1 x2 y = total (rows x0 x1 x2) := by
  have hy : y = r0_28.emb y := funext fun a => by fin_cases a <;> exact Subsingleton.elim (α := Fin 1) _ _
  unfold out0_3 k0_pay23 k0_pay24
  rw [hy]
  exact (View.canon_cons_emb _ _ _ _).trans rfl

end AnyFloat

end Cert.KernelIdeal.Block

end
-- ==== Proof.Value.BlockIdeal.lean ====
module

public import proofs.«01_k».proof.Proof.Value.Block

/-! # The body's vectors at `Ideal`, read at an index

Each vector `Value/Block.lean` names, at one index, as extended reals. -/

@[expose] public section

set_option maxRecDepth 16384

noncomputable section

namespace Cert.KernelIdeal.Block

open Cert.KernelIdeal Cert.KernelIdeal.Gen Idealize.ShloMosaic Cert.Chamfer

/-- A squared difference, goal `i` against state `j`. -/
theorem sqd_apply (col : FVec Ideal S512x1 .f32) (row : Vec Ideal S1x1x1x512 .f32) (i j : Fin 512) :
    sqd col row (ix2 i j) = sqDiff (col (ix2 i 0)) (row (ix4 0 0 0 j)) := by
  pointwise [sqd, sqDiff]

/-- The least latent distance of goal `i`. -/
theorem goalLeast_apply (P : FVec Ideal S512x512 .f32) (i : Fin 512) :
    goalLeast P (ix2 i 0) = least fun j => P (ix2 i j) := by
  pointwise [goalLeast, least, ofBits_infinity]

/-- The least latent distance of state `j`. -/
theorem stateLeast_apply (P : FVec Ideal S512x512 .f32) (j : Fin 512) :
    stateLeast P (ix2 0 j) = least fun i => P (ix2 i j) := by
  pointwise [stateLeast, least, ofBits_infinity]

/-- The term of goal `i`. -/
theorem goalSide_apply (P D : FVec Ideal S512x512 .f32) (i : Fin 512) :
    goalSide P D (ix2 0 i) = near (fun j => P (ix2 i j)) (fun j => D (ix2 i j)) := by
  pointwise [goalSide, near, goalLeast_apply, ofBits_six]

/-- The term of state `j`. -/
theorem stateSide_apply (P D : FVec Ideal S512x512 .f32) (j : Fin 512) :
    stateSide P D (ix2 0 j) = near (fun i => P (ix2 i j)) (fun i => D (ix2 i j)) := by
  pointwise [stateSide, near, stateLeast_apply, ofBits_six]

/-- The stored element is the sum over the lanes, scaled. -/
theorem total_apply (s : FVec Ideal S1x512 .f32) :
    total s = (∑ l, s (ix2 0 l)) * ((-(1 / 4096) : ℝ) : EReal) := by
  pointwise [total, ofBits_scale]
  rw [Fin.sum_univ_one]

/-- One view's row at lane `l`: the two terms there, `s` being the state particles' features the six rows hold. -/
theorem viewRow_apply (g : Vec Ideal S1x1x512x10 .f32) (r5 r6 r7 r8 r0 r1 : Vec Ideal S1x1x1x512 .f32) (s : Fin 512 → Fin 10 → EReal)
    (h5 : ∀ j, r5 (ix4 0 0 0 j) = s j 5) (h6 : ∀ j, r6 (ix4 0 0 0 j) = s j 6) (h7 : ∀ j, r7 (ix4 0 0 0 j) = s j 7)
    (h8 : ∀ j, r8 (ix4 0 0 0 j) = s j 8) (h0 : ∀ j, r0 (ix4 0 0 0 j) = s j 0) (h1 : ∀ j, r1 (ix4 0 0 0 j) = s j 1) (l : Fin 512) :
    viewRow g r5 r6 r7 r8 r0 r1 (ix2 0 l) = pairTerm (fun i f => g (ix4 0 0 i f)) s l := by
  unfold viewRow
  pointwise [goalSide_apply, stateSide_apply, latent, place, sqd_apply]
  simp only [h5, h6, h7, h8, h0, h1]
  rfl

/-- The row the body sums, at lane `l`: the two terms of each of the four views, from the features the blocks hold. -/
theorem rows_apply (x0 : Vec Ideal S1x4x512x10 .f32) (x1 : Vec Ideal S2x1x4x512 .f32) (x2 : Vec Ideal S4x1x4x512 .f32)
    (g s : Fin 4 → Fin 512 → Fin 10 → EReal) (hg : ∀ v i f, x0 (ix4 0 v i f) = g v i f)
    (hxy : ∀ (f : Fin 2) v j, x1 (ix4 f 0 v j) = s v j ⟨f, by omega⟩) (hvis : ∀ (f : Fin 4) v j, x2 (ix4 f 0 v j) = s v j ⟨5 + f, by omega⟩)
    (l : Fin 512) : rows x0 x1 x2 (ix2 0 l) = pairTerm (g 0) (s 0) l + pairTerm (g 1) (s 1) l + pairTerm (g 2) (s 2) l + pairTerm (g 3) (s 3) l := by
  unfold rows
  pointwise
  rw [viewRow_apply _ _ _ _ _ _ _ (s 0), viewRow_apply _ _ _ _ _ _ _ (s 1), viewRow_apply _ _ _ _ _ _ _ (s 2), viewRow_apply _ _ _ _ _ _ _ (s 3)]
  iterate 4 case h5 => exact fun j => Eq.trans (by pointwise) (hvis 0 _ j)
  iterate 4 case h6 => exact fun j => Eq.trans (by pointwise) (hvis 1 _ j)
  iterate 4 case h7 => exact fun j => Eq.trans (by pointwise) (hvis 2 _ j)
  iterate 4 case h8 => exact fun j => Eq.trans (by pointwise) (hvis 3 _ j)
  iterate 4 case h0 => exact fun j => Eq.trans (by pointwise) (hxy 0 _ j)
  iterate 4 case h1 => exact fun j => Eq.trans (by pointwise) (hxy 1 _ j)
  have e0 : (fun i f => View.ld x0 r0_0 (ix4 0 0 i f)) = g 0 := funext fun i => funext fun f => Eq.trans (by pointwise) (hg 0 i f)
  have e1 : (fun i f => View.ld x0 r0_7 (ix4 0 0 i f)) = g 1 := funext fun i => funext fun f => Eq.trans (by pointwise) (hg 1 i f)
  have e2 : (fun i f => View.ld x0 r0_14 (ix4 0 0 i f)) = g 2 := funext fun i => funext fun f => Eq.trans (by pointwise) (hg 2 i f)
  have e3 : (fun i f => View.ld x0 r0_21 (ix4 0 0 i f)) = g 3 := funext fun i => funext fun f => Eq.trans (by pointwise) (hg 3 i f)
  rw [e0, e1, e2, e3]

end Cert.KernelIdeal.Block

end
-- ==== Proof.Value.Array.lean ====
module

public import proofs.«01_k».proof.Proof.Value.BlockIdeal
public import proofs.«01_k».proof.Proof.Gen.KernelIdeal.Run
public import Idealize.ShloMosaic.Lib.Pipeline.ValueKit

/-! # What the kernel leaves in its result array, at `Ideal`

Grid point `t` stores the total of batch `t`; the 64 one-element blocks fill the array. -/

@[expose] public section

set_option maxRecDepth 16384

noncomputable section

namespace Cert.KernelIdeal.Block

open Cert.KernelIdeal Cert.KernelIdeal.Gen Idealize.ShloMosaic Idealize.ShloMosaic.TcCoe Idealize.SL.Sem Idealize.ShloMosaic.StableHlo Cert.Chamfer

variable (m : (ℓ : Loc nD τ sig) → Buf (Elt Ideal) ℓ)

/-- The particles of batch `b`, view `v`, of one argument array. -/
def particles (a : FVec Ideal S64x4x512x10 .f32) (b : Fin 64) (v : Fin 4) : Fin 512 → Fin 10 → EReal := fun i f => a (ix4 b v i f)

/-- The kernel's result for batch `b`, from the state array `a0` and the goal array `a1`. -/
def kernelOut (a0 a1 : FVec Ideal S64x4x512x10 .f32) (b : Fin 64) : EReal :=
  (∑ l, (pairTerm (particles a1 b 0) (particles a0 b 0) l + pairTerm (particles a1 b 1) (particles a0 b 1) l
    + pairTerm (particles a1 b 2) (particles a0 b 2) l + pairTerm (particles a1 b 3) (particles a0 b 3) l)) * ((-(1 / 4096) : ℝ) : EReal)

/-- The positions as the region finds them: the first two features, moved in front. -/
theorem V_xy (c : Dev nD) (f : Fin 2) (b : Fin 64) (v : Fin 4) (j : Fin 512) :
    V m c main_call0_v1 (ix4 f b v j) = (m ((c : Thread nD τ).loc main_arg0) : FVec Ideal S64x4x512x10 .f32) (ix4 b v j ⟨f, by omega⟩) := by
  have h : V m c main_call0_v1 = transpose S2x64x4x512 [3, 0, 1, 2] (extractStridedSlice S64x4x512x2 ![0, 0, 0, 0] (m ((c : Thread nD τ).loc main_arg0)) slices_S64x4x512x10_S64x4x512x2_0_0_0_0) transposes_S64x4x512x2_S2x64x4x512_3_0_1_2 := by
    show after (List.flatten [hostOps0]) _ (Proc.devRef .tc main_call0_v1) = _
    simp only [hostOps0, List.flatten_cons, List.flatten_nil, List.append_nil, List.cons_append, List.nil_append]
    after_results <;> rfl
  rw [h]
  pointwise

/-- The latent features as the region finds them: features 5 to 8, moved in front. -/
theorem V_vis (c : Dev nD) (f : Fin 4) (b : Fin 64) (v : Fin 4) (j : Fin 512) :
    V m c main_call0_v3 (ix4 f b v j) = (m ((c : Thread nD τ).loc main_arg0) : FVec Ideal S64x4x512x10 .f32) (ix4 b v j ⟨5 + f, by omega⟩) := by
  have h : V m c main_call0_v3 = transpose S4x64x4x512 [3, 0, 1, 2] (extractStridedSlice S64x4x512x4 ![0, 0, 0, 5] (m ((c : Thread nD τ).loc main_arg0)) slices_S64x4x512x10_S64x4x512x4_0_0_0_5) transposes_S64x4x512x4_S4x64x4x512_3_0_1_2 := by
    show after (List.flatten [hostOps0]) _ (Proc.devRef .tc main_call0_v3) = _
    simp only [hostOps0, List.flatten_cons, List.flatten_nil, List.append_nil, List.cons_append, List.nil_append]
    after_results <;> rfl
  rw [h]
  pointwise

/-- The block indices of the four windows at point `t`: batch `t` each time. -/
theorem index_eq : ∀ t : Fin grid0.N, win0_0.index t = ![t.val, 0, 0, 0] ∧ win0_1.index t = ![0, t.val, 0, 0]
    ∧ win0_2.index t = ![0, t.val, 0, 0] ∧ win0_3.index t = ![t.val, 0, 0] := by
  decide +kernel

/-- Point `t`'s block of the goal array is batch `t`. -/
theorem goal_block (c : Dev nD) (t : Fin cfg0.N) (b : Fin 64) (hb : b.val = t.val) (v : Fin 4) (i : Fin 512) (f : Fin 10) :
    iblk m c 0 t (ix4 0 v i f) = (m ((c : Thread nD τ).loc main_arg1) : FVec Ideal S64x4x512x10 .f32) (ix4 b v i f) := by
  have e := V_main_arg1 m c
  blk_ext [iblk, e, index_eq t, hb]

/-- Point `t`'s block of the positions is batch `t`. -/
theorem xy_block (c : Dev nD) (t : Fin cfg0.N) (b : Fin 64) (hb : b.val = t.val) (f : Fin 2) (v : Fin 4) (i : Fin 512) :
    iblk m c 1 t (ix4 f 0 v i) = (m ((c : Thread nD τ).loc main_arg0) : FVec Ideal S64x4x512x10 .f32) (ix4 b v i ⟨f, by omega⟩) := by
  rw [← V_xy m c f b v i]
  blk_ext [iblk, index_eq t, hb]

/-- Point `t`'s block of the latent features is batch `t`. -/
theorem vis_block (c : Dev nD) (t : Fin cfg0.N) (b : Fin 64) (hb : b.val = t.val) (f : Fin 4) (v : Fin 4) (i : Fin 512) :
    iblk m c 2 t (ix4 f 0 v i) = (m ((c : Thread nD τ).loc main_arg0) : FVec Ideal S64x4x512x10 .f32) (ix4 b v i ⟨5 + f, by omega⟩) := by
  rw [← V_vis m c f b v i]
  blk_ext [iblk, index_eq t, hb]

/-- What point `t` leaves in its output block: the result of batch `t`. -/
theorem point (c : Dev nD) (t : Fin cfg0.N) (b : Fin 64) (hb : b.val = t.val) (y : S1x1x1.Idx) :
    out0_3 (iblk m c 0 t) (iblk m c 1 t) (iblk m c 2 t) y
      = kernelOut (m ((c : Thread nD τ).loc main_arg0)) (m ((c : Thread nD τ).loc main_arg1)) b := by
  have h := rows_apply (iblk m c 0 t) (iblk m c 1 t) (iblk m c 2 t) (particles (m ((c : Thread nD τ).loc main_arg1)) b)
    (particles (m ((c : Thread nD τ).loc main_arg0)) b) (fun v i f => goal_block m c t b hb v i f) (fun f v j => xy_block m c t b hb f v j)
    (fun f v j => vis_block m c t b hb f v j)
  rw [out_eq, total_apply]
  simp only [h]
  rfl

/-- The array after the run: element `b` is the result of batch `b`. -/
theorem final (c : Dev nD) : (dats m 0 c).arrAt 3 cfg0.N
    = fun y : S64x1x1.Idx => kernelOut (m ((c : Thread nD τ).loc main_arg0)) (m ((c : Thread nD τ).loc main_arg1)) (y 0) := by
  refine (dats m 0 c).arrAt_eq_of_covers 3 _ (by decide +kernel) fun t _ y => ?_
  blk_simp
  rw [after0_3]
  exact point m c t _ (by blk_simp [index_eq t]) y

end Cert.KernelIdeal.Block

end
-- ==== Proof.Value.Pre.lean ====
module

public import proofs.«01_k».proof.Proof.Gen.Pre_nearest_unique
public import proofs.«01_k».proof.Proof.Value.Near
public import Idealize.ShloMosaic.Lib.StableHlo.Predicate

/-! # What the precondition says -/

@[expose] public section

set_option maxRecDepth 16384

noncomputable section

namespace Cert.Pre_nearest_unique

open Cert.Pre_nearest_unique.Gen Idealize.ShloMosaic Cert.Chamfer

/-- The latent distances of the two arrays, state by goal. -/
def dist (x0 x1 : FVec Ideal S64x4x512x10 .f32) : FVec Ideal S64x4x512x512 .f32 :=
  Host.reduceAdd (mulf (subf
      (broadcastInDim S64x4x512x512x4 ![0, 1, 2, 3, 4] bcast_S64x4x512x1x4_S64x4x512x512x4_0_1_2_3_4 (broadcastInDim S64x4x512x1x4 ![0, 1, 2, 4] bcast_S64x4x512x4_S64x4x512x1x4_0_1_2_4 (extractStridedSlice S64x4x512x4 ![0, 0, 0, 5] x0 slices_S64x4x512x10_S64x4x512x4_0_0_0_5)))
      (broadcastInDim S64x4x512x512x4 ![0, 1, 2, 3, 4] bcast_S64x4x1x512x4_S64x4x512x512x4_0_1_2_3_4 (broadcastInDim S64x4x1x512x4 ![0, 1, 3, 4] bcast_S64x4x512x4_S64x4x1x512x4_0_1_3_4 (extractStridedSlice S64x4x512x4 ![0, 0, 0, 5] x1 slices_S64x4x512x10_S64x4x512x4_0_0_0_5))))
    (subf
      (broadcastInDim S64x4x512x512x4 ![0, 1, 2, 3, 4] bcast_S64x4x512x1x4_S64x4x512x512x4_0_1_2_3_4 (broadcastInDim S64x4x512x1x4 ![0, 1, 2, 4] bcast_S64x4x512x4_S64x4x512x1x4_0_1_2_4 (extractStridedSlice S64x4x512x4 ![0, 0, 0, 5] x0 slices_S64x4x512x10_S64x4x512x4_0_0_0_5)))
      (broadcastInDim S64x4x512x512x4 ![0, 1, 2, 3, 4] bcast_S64x4x1x512x4_S64x4x512x512x4_0_1_2_3_4 (broadcastInDim S64x4x1x512x4 ![0, 1, 3, 4] bcast_S64x4x512x4_S64x4x1x512x4_0_1_3_4 (extractStridedSlice S64x4x512x4 ![0, 0, 0, 5] x1 slices_S64x4x512x10_S64x4x512x4_0_0_0_5)))))
    (constant S_ .f32 0x00000000#32) reducesTo_S64x4x512x512x4_S64x4x512x512_d4 h_S_

/-- The least distances over the states, goal by goal. -/
def goalMin (P : FVec Ideal S64x4x512x512 .f32) : FVec Ideal S64x4x512 .f32 :=
  Host.reduce FloatOps.minimumf P (constant S_ .f32 0x7F800000#32) reducesTo_S64x4x512x512_S64x4x512_d2 h_S_

/-- The least distances over the goals, state by state. -/
def stateMin (P : FVec Ideal S64x4x512x512 .f32) : FVec Ideal S64x4x512 .f32 :=
  Host.reduce FloatOps.minimumf P (constant S_ .f32 0x7F800000#32) reducesTo_S64x4x512x512_S64x4x512_d3 h_S_

/-- The condition as it is printed, from the distances `P` and their least values `p` and `q` on. -/
def cond (P : FVec Ideal S64x4x512x512 .f32) (p q : FVec Ideal S64x4x512 .f32) : IVec S64x4x512 1 :=
  fn_part1 (F := Ideal) p
    (Host.reduce IntOp.addi (extui 32 (cmpf .oeq P (broadcastInDim S64x4x512x512 ![0, 1, 2, 3] bcast_S64x4x1x512_S64x4x512x512_0_1_2_3 (broadcastInDim S64x4x1x512 ![0, 1, 3] bcast_S64x4x512_S64x4x1x512_0_1_3 p))) natLt_1_32)
      (constantI S_ 32 0#32) reducesTo_S64x4x512x512_S64x4x512_d2 h_S_)
    q
    (extui 32 (cmpf .oeq P (broadcastInDim S64x4x512x512 ![0, 1, 2, 3] bcast_S64x4x512x1_S64x4x512x512_0_1_2_3 (broadcastInDim S64x4x512x1 ![0, 1, 2] bcast_S64x4x512_S64x4x512x1_0_1_2 q))) natLt_1_32)

/-- The printed precondition is the condition on the distances. -/
theorem fn_eq (x0 x1 : FVec Ideal S64x4x512x10 .f32) : fn (F := Ideal) x0 x1 = cond (dist x0 x1) (goalMin (dist x0 x1)) (stateMin (dist x0 x1)) := rfl

/-- The least distance of goal `j`. -/
theorem goalMin_apply (P : FVec Ideal S64x4x512x512 .f32) (b : Fin 64) (v : Fin 4) (j : Fin 512) : goalMin P (ix3 b v j) = least fun i => P (ix4 b v i j) := by
  pointwise [goalMin, least, ofBits_infinity]

/-- The least distance of state `i`. -/
theorem stateMin_apply (P : FVec Ideal S64x4x512x512 .f32) (b : Fin 64) (v : Fin 4) (i : Fin 512) : stateMin P (ix3 b v i) = least fun j => P (ix4 b v i j) := by
  pointwise [stateMin, least, ofBits_infinity]

/-- The distance of state `i` and goal `j`. -/
theorem dist_apply (x0 x1 : FVec Ideal S64x4x512x10 .f32) (b : Fin 64) (v : Fin 4) (i j : Fin 512) :
    dist x0 x1 (ix4 b v i j) = latentDist (fun f => x1 (ix4 b v j f)) (fun f => x0 (ix4 b v i f)) := by
  rw [latentDist_comm]
  pointwise [dist, latentDist, sqDiff]
  rw [Fin.sum_univ_four]
  rfl

/-- A count of one, added up in 32-bit words, means that exactly one element has the property. -/
theorem unique_of_count {n : ℕ} (hn : n < 2 ^ 32) (q : Fin n → Prop) [DecidablePred q]
    (h : Finset.univ.fold IntOp.addi 0#32 (fun i => BitVec.setWidth 32 (BitVec.ofBool (decide (q i)))) = 1#32) : ∃ k, ∀ i, q i ↔ i = k := by
  have hv : ∀ i, (BitVec.setWidth 32 (BitVec.ofBool (decide (q i)))).toNat = if q i then 1 else 0 := fun i => by
    rw [StableHlo.Predicate.toNat_setWidth_bit]; by_cases hq : q i <;> simp [hq]
  have hsum : ∑ i, (BitVec.setWidth 32 (BitVec.ofBool (decide (q i)))).toNat = (Finset.univ.filter q).card := by
    rw [Finset.card_filter]; exact Finset.sum_congr rfl fun i _ => hv i
  have hlt : (Finset.univ.filter q).card < 2 ^ 32 := lt_of_le_of_lt (Finset.card_le_univ _) (by simpa using hn)
  have hc := StableHlo.Predicate.toNat_fold_addi Finset.univ (fun i => BitVec.setWidth 32 (BitVec.ofBool (decide (q i)))) (by rw [hsum]; exact hlt)
  rw [h, hsum] at hc
  obtain ⟨k, hk⟩ := Finset.card_eq_one.1 hc.symm
  exact ⟨k, fun i => by simpa using Finset.ext_iff.1 hk i⟩

/-- One half of the condition: the threshold's bit or the count's is set. -/
theorem settled_of_bits {n : ℕ} (hn : n < 2 ^ 32) (P : Fin n → EReal)
    (h : IntOp.ori (BitVec.ofBool (decide (((6 : ℝ) : EReal) < least P)))
      (IntOp.cmpi .eq (Finset.univ.fold IntOp.addi 0#32 fun i => BitVec.setWidth 32 (BitVec.ofBool (decide (P i = least P)))) 1#32) = 1#1) :
    Settled P := by
  rcases IntOp.ori_eq_one.1 h with h' | h'
  · exact .inl (of_decide_eq_true (StableHlo.Predicate.ofBool_eq_one_iff _ |>.1 h'))
  · exact .inr (unique_of_count hn _ (StableHlo.Predicate.cmpi_eq_iff.1 h'))

/-- The condition read at an index. -/
theorem cond_apply (P : FVec Ideal S64x4x512x512 .f32) (p q : FVec Ideal S64x4x512 .f32) (b : Fin 64) (v : Fin 4) (l : Fin 512) :
    cond P p q (ix3 b v l) = IntOp.andi
      (IntOp.ori (BitVec.ofBool (decide (((6 : ℝ) : EReal) < p (ix3 b v l))))
        (IntOp.cmpi .eq (Finset.univ.fold IntOp.addi 0#32 fun i => BitVec.setWidth 32 (BitVec.ofBool (decide (P (ix4 b v i l) = p (ix3 b v l))))) 1#32))
      (IntOp.ori (BitVec.ofBool (decide (((6 : ℝ) : EReal) < q (ix3 b v l))))
        (IntOp.cmpi .eq (Finset.univ.fold IntOp.addi 0#32 fun j => BitVec.setWidth 32 (BitVec.ofBool (decide (P (ix4 b v l j) = q (ix3 b v l))))) 1#32)) := by
  pointwise [cond, fn_part1, ofBits_six]

/-- The condition at batch `b`, view `v` and particle `l`: goal `l` is settled over the states and state `l` over the goals. -/
theorem settled_of_cond (P : FVec Ideal S64x4x512x512 .f32) (p q : FVec Ideal S64x4x512 .f32) (b : Fin 64) (v : Fin 4) (l : Fin 512)
    (hp : p (ix3 b v l) = least fun i => P (ix4 b v i l)) (hq : q (ix3 b v l) = least fun j => P (ix4 b v l j)) (h : cond P p q (ix3 b v l) = 1#1) :
    Settled (fun i => P (ix4 b v i l)) ∧ Settled (fun j => P (ix4 b v l j)) := by
  rw [cond_apply, hp, hq] at h
  obtain ⟨h1, h2⟩ := IntOp.andi_eq_one.1 h
  exact ⟨settled_of_bits (by norm_num) _ h1, settled_of_bits (by norm_num) _ h2⟩

/-- What the precondition says of the two arrays: every particle is settled over the particles of the other array. -/
theorem settled (x0 x1 : FVec Ideal S64x4x512x10 .f32) (h : fn (F := Ideal) x0 x1 = fun _ => 1#1) (b : Fin 64) (v : Fin 4) (l : Fin 512) :
    Settled (fun i => latentDist (fun f => x1 (ix4 b v l f)) (fun f => x0 (ix4 b v i f)))
      ∧ Settled (fun j => latentDist (fun f => x1 (ix4 b v j f)) (fun f => x0 (ix4 b v l f))) := by
  rw [fn_eq] at h
  have hd := dist_apply x0 x1 b v
  generalize dist x0 x1 = P at h hd
  have := settled_of_cond P (goalMin P) (stateMin P) b v l (goalMin_apply P b v l) (stateMin_apply P b v l) (congrFun h _)
  simpa only [hd] using this

end Cert.Pre_nearest_unique

end
-- ==== Proof.Ref.Reward.lean ====
module

public import proofs.«01_k».proof.Proof.Gen.ReferenceIdeal

/-! # What the reference computes, as one function of its two arrays

`reward` at any float values. The two directions, goal particles over states and state particles over goals, share
`taken`, `term` and `mean`; only the axis that is searched differs. -/

@[expose] public section

set_option maxRecDepth 16384

noncomputable section

namespace Cert.ReferenceIdeal.Nearest

open Cert.ReferenceIdeal Cert.ReferenceIdeal.Gen Idealize.ShloMosaic

variable {F : FTy → Type} [FloatOps F]

/-- One float for every particle. -/
def each (w : BitVec 32) : FVec F S64x4x512 .f32 := broadcastInDim S64x4x512 ![] bcast_S_S64x4x512 (constant S_ .f32 w)

/-- One float for every view. -/
def eachView (w : BitVec 32) : FVec F S64x4 .f32 := broadcastInDim S64x4 ![] bcast_S_S64x4 (constant S_ .f32 w)

variable (F) in
/-- The mask of the particles that do not count: those whose class weight, one for all, is zero. -/
def masked : IVec S64x4x512 1 := cmpf .oeq (each (F := F) 0x3F800000#32) (each 0x00000000#32)

variable (F) in
/-- The mask spread along the last of two particle axes. -/
def maskedRows : IVec S64x4x512x512 1 :=
  broadcastInDim S64x4x512x512 ![0, 1, 2, 3] bcast_S64x4x512x1_S64x4x512x512_0_1_2_3
    (broadcastInDim S64x4x512x1 ![0, 1, 2] bcast_S64x4x512_S64x4x512x1_0_1_2 (masked F))

/-- The positions: features 0 and 1. -/
def places (x : FVec F S64x4x512x10 .f32) : FVec F S64x4x512x2 .f32 :=
  extractStridedSlice S64x4x512x2 ![0, 0, 0, 0] x slices_S64x4x512x10_S64x4x512x2_0_0_0_0

/-- The latent features: 5 to 8. -/
def latents (x : FVec F S64x4x512x10 .f32) : FVec F S64x4x512x4 .f32 :=
  extractStridedSlice S64x4x512x4 ![0, 0, 0, 5] x slices_S64x4x512x10_S64x4x512x4_0_0_0_5

/-- The differences of the latent features, state by goal. -/
def diffs (x0 x1 : FVec F S64x4x512x10 .f32) : FVec F S64x4x512x512x4 .f32 :=
  subf
    (broadcastInDim S64x4x512x512x4 ![0, 1, 2, 3, 4] bcast_S64x4x512x1x4_S64x4x512x512x4_0_1_2_3_4
      (broadcastInDim S64x4x512x1x4 ![0, 1, 2, 4] bcast_S64x4x512x4_S64x4x512x1x4_0_1_2_4 (latents x0)))
    (broadcastInDim S64x4x512x512x4 ![0, 1, 2, 3, 4] bcast_S64x4x1x512x4_S64x4x512x512x4_0_1_2_3_4
      (broadcastInDim S64x4x1x512x4 ![0, 1, 3, 4] bcast_S64x4x512x4_S64x4x1x512x4_0_1_3_4 (latents x1)))

/-- The latent distances, state by goal: infinite where either particle is masked. -/
def dists (x0 x1 : FVec F S64x4x512x10 .f32) : FVec F S64x4x512x512 .f32 :=
  select (ori (maskedRows F) (transpose S64x4x512x512 [0, 1, 3, 2] (maskedRows F) transposes_S64x4x512x512_S64x4x512x512_0_1_3_2))
    (broadcastInDim S64x4x512x512 ![] bcast_S_S64x4x512x512 (constant S_ .f32 0x7F800000#32))
    (Host.reduceAdd (mulf (diffs x0 x1) (diffs x0 x1)) (constant S_ .f32 0x00000000#32) reducesTo_S64x4x512x512x4_S64x4x512x512_d4 h_S_)

/-- The least distance of each goal particle, over the states. -/
def goalLeast (P : FVec F S64x4x512x512 .f32) : FVec F S64x4x512 .f32 :=
  Host.reduce FloatOps.minimumf P (constant S_ .f32 0x7F800000#32) reducesTo_S64x4x512x512_S64x4x512_d2 h_S_

/-- The least distance of each state particle, over the goals. -/
def stateLeast (P : FVec F S64x4x512x512 .f32) : FVec F S64x4x512 .f32 :=
  Host.reduce FloatOps.minimumf P (constant S_ .f32 0x7F800000#32) reducesTo_S64x4x512x512_S64x4x512_d3 h_S_

/-- The indices in an array of values with their indices. -/
def indices (r : S64x4x512.Idx → F .f32 × BitVec 32) : IVec S64x4x512 32 := fun j => (r j).2

/-- The index of each goal particle's nearest state particle. -/
def goalNearest (P : FVec F S64x4x512x512 .f32) : IVec S64x4x512 32 :=
  indices (Host.argReduce reducer_argmin_f32_i32 P (iotaInDim S64x4x512x512 32 2) (constant S_ .f32 0x7F800000#32) (constantI S_ 32 0#32)
    reducesTo_S64x4x512x512_S64x4x512_d2 h_S_)

/-- The index of each state particle's nearest goal particle. -/
def stateNearest (P : FVec F S64x4x512x512 .f32) : IVec S64x4x512 32 :=
  indices (Host.argReduce reducer_argmin_f32_i32 P (iotaInDim S64x4x512x512 32 3) (constant S_ .f32 0x7F800000#32) (constantI S_ 32 0#32)
    reducesTo_S64x4x512x512_S64x4x512_d3 h_S_)

/-- The same index for both position features. -/
def spread (y : IVec S64x4x512 32) : IVec S64x4x512x2 32 :=
  broadcastInDim S64x4x512x2 ![0, 1, 2, 3] bcast_S64x4x512x1_S64x4x512x2_0_1_2_3
    (broadcastInDim S64x4x512x1 ![0, 1, 2] bcast_S64x4x512_S64x4x512x1_0_1_2 y)

/-- The start indices of the gather: a negative index counts from the end. -/
def starts (y : IVec S64x4x512x2 32) : IVec S64x4x512x2x1 32 :=
  shapeCast S64x4x512x2x1
    (select (cmpi .slt y (broadcastInDim S64x4x512x2 ![] bcast_S_S64x4x512x2 (constantI S_ 32 0#32)))
      (addi y (broadcastInDim S64x4x512x2 ![] bcast_S_S64x4x512x2 (constantI S_ 32 512#32))) y) shapeCasts_S64x4x512x2_S64x4x512x2x1

/-- Which start indices are in range. -/
def inRange (s : IVec S64x4x512x2x1 32) : IVec S64x4x512x2 1 :=
  Host.reduce IntOp.andi
    (andi (cmpi .sge s (broadcastInDim S64x4x512x2x1 ![] bcast_S_S64x4x512x2x1 (constantI S_ 32 0#32)))
      (cmpi .sle s (broadcastInDim S64x4x512x2x1 ![0, 1, 2, 3, 4] bcast_S1x1x1x1x1_S64x4x512x2x1_0_1_2_3_4
        (broadcastInDim S1x1x1x1x1 ![4] bcast_S1_S1x1x1x1x1_4 (constantI S1 32 511#32)))))
    (constantI S_ 1 1#1) reducesTo_S64x4x512x2x1_S64x4x512x2_d4 h_S_

/-- The positions `x` taken along the particle axis at the indices `y`. -/
def taken (x : FVec F S64x4x512x2 .f32) (y : IVec S64x4x512 32) : FVec F S64x4x512x2 .f32 :=
  select (inRange (starts (spread y)))
    (Host.gather gather_S64x4x512x2_S64x4x512x2x1_S64x4x512x2_n_2_013_013_2_4_1111 x (starts (spread y)))
    (broadcastInDim S64x4x512x2 ![] bcast_S_S64x4x512x2 (constant S_ .f32 0x7FC00000#32))

/-- Each particle's contribution, from its least distance `q`, its position `p` and its nearest particle's position `r`. -/
def term (q : FVec F S64x4x512 .f32) (p r : FVec F S64x4x512x2 .f32) : FVec F S64x4x512 .f32 :=
  select (masked F) (each 0x00000000#32)
    (select (cmpf .ogt q (each 0x40C00000#32)) (each 0x3F800000#32)
      (Host.sqrt (Host.reduceAdd (mulf (subf p r) (subf p r)) (constant S_ .f32 0x00000000#32) reducesTo_S64x4x512x2_S64x4x512_d3 h_S_)))

/-- The goal particles' contributions. -/
def goalTerms (x0 x1 : FVec F S64x4x512x10 .f32) : FVec F S64x4x512 .f32 :=
  term (goalLeast (dists x0 x1)) (places x1) (taken (places x0) (goalNearest (dists x0 x1)))

/-- The state particles' contributions. -/
def stateTerms (x0 x1 : FVec F S64x4x512x10 .f32) : FVec F S64x4x512 .f32 :=
  term (stateLeast (dists x0 x1)) (places x0) (taken (places x1) (stateNearest (dists x0 x1)))

variable (F) in
/-- How many particles of a view count, at least one. -/
def number : IVec S64x4 32 :=
  maxsi (Host.reduce IntOp.addi (extui 32 (noti (masked F)) natLt_1_32) (constantI S_ 32 0#32) reducesTo_S64x4x512_S64x4_d2 h_S_)
    (broadcastInDim S64x4 ![] bcast_S_S64x4 (constantI S_ 32 1#32))

/-- Minus the mean of a view's contributions. -/
def mean (t : FVec F S64x4x512 .f32) : FVec F S64x4 .f32 :=
  Host.divf (Host.negf (Host.reduceAdd t (constant S_ .f32 0x00000000#32) reducesTo_S64x4x512_S64x4_d2 h_S_)) (sitofp .f32 (number F))

variable (F) in
/-- The views none of whose particles counts. -/
def empty : IVec S64x4 1 := Host.reduce IntOp.andi (masked F) (constantI S_ 1 1#1) reducesTo_S64x4x512_S64x4_d2 h_S_

/-- A view's reward: the mean of the two directions, minus one for a view without particles. -/
def views (x0 x1 : FVec F S64x4x512x10 .f32) : FVec F S64x4 .f32 :=
  select (ori (empty F) (empty F)) (eachView 0xBF800000#32)
    (Host.divf (addf (mean (goalTerms x0 x1)) (mean (stateTerms x0 x1))) (eachView 0x40000000#32))

/-- The result: the mean of the views' rewards `r`, times the scale one. -/
def overViews (r : FVec F S64x4 .f32) : FVec F S64x1 .f32 :=
  mulf (broadcastInDim S64x1 ![] bcast_S_S64x1 (constant S_ .f32 0x3F800000#32))
    (broadcastInDim S64x1 ![0] bcast_S64_S64x1_0
      (Host.divf (Host.reduceAdd r (constant S_ .f32 0x00000000#32) reducesTo_S64x4_S64_d1 h_S_)
        (broadcastInDim S64 ![] bcast_S_S64 (constant S_ .f32 0x40800000#32))))

/-- The reference as a function. -/
def reward (x0 x1 : FVec F S64x4x512x10 .f32) : FVec F S64x1 .f32 := overViews (views x0 x1)

end Cert.ReferenceIdeal.Nearest

end
-- ==== Proof.Ref.Dist.lean ====
module

public import proofs.«01_k».proof.Proof.Ref.Reward
public import proofs.«01_k».proof.Proof.Value.Near

/-! # What the reference computes first: the latent distances and their least values -/

@[expose] public section

set_option maxRecDepth 16384

noncomputable section

namespace Cert.ReferenceIdeal.Nearest

open Cert.ReferenceIdeal Cert.ReferenceIdeal.Gen Idealize.ShloMosaic Cert.Chamfer

/-- The particles of batch `b`, view `v`, of one argument array. -/
def batch (a : FVec Ideal S64x4x512x10 .f32) (b : Fin 64) (v : Fin 4) : Fin 512 → Fin 10 → EReal := fun i f => a (ix4 b v i f)

/-- No particle is masked: one is not zero. -/
theorem masked_apply (b : Fin 64) (v : Fin 4) (i : Fin 512) : masked Ideal (ix3 b v i) = 0#1 := by
  pointwise [masked, each]
  simp

/-- The distances, state by goal. -/
theorem dists_apply (x0 x1 : FVec Ideal S64x4x512x10 .f32) (b : Fin 64) (v : Fin 4) (i j : Fin 512) :
    dists x0 x1 (ix4 b v i j) = latentDist (batch x1 b v j) (batch x0 b v i) := by
  pointwise [dists, maskedRows, masked_apply, diffs, latents]
  rw [latentDist_comm, show IntOp.ori 0#1 0#1 = 0#1 from rfl]
  simp only [Scalar.select, if_neg (show ¬ (0#1 : BitVec 1) = 1#1 by decide), Fin.sum_univ_four]
  rfl

/-- The least distance of goal `j`, over the states. -/
theorem goalLeast_apply (P : FVec Ideal S64x4x512x512 .f32) (b : Fin 64) (v : Fin 4) (j : Fin 512) :
    goalLeast P (ix3 b v j) = least fun i => P (ix4 b v i j) := by
  pointwise [goalLeast, least, ofBits_infinity]

/-- The least distance of state `i`, over the goals. -/
theorem stateLeast_apply (P : FVec Ideal S64x4x512x512 .f32) (b : Fin 64) (v : Fin 4) (i : Fin 512) :
    stateLeast P (ix3 b v i) = least fun j => P (ix4 b v i j) := by
  pointwise [stateLeast, least, ofBits_infinity]

end Cert.ReferenceIdeal.Nearest

end
-- ==== Proof.Ref.Argmin.lean ====
module

public import proofs.«01_k».proof.Proof.Ref.Reward
public import Idealize.ShloMosaic.Lib.Pointwise

/-! # The reference's argmin where one element alone is least -/

@[expose] public section

set_option maxRecDepth 16384

noncomputable section

namespace Cert.ReferenceIdeal.Nearest

open Cert.ReferenceIdeal Cert.ReferenceIdeal.Gen Idealize.ShloMosaic

/-- A pair of a value and its index, at `Ideal`. -/
abbrev Pair : Type := Ideal .f32 × BitVec 32

/-- The argmin's body by the order of the two values. -/
theorem reducer_eq (a b : Pair) : reducer_argmin_f32_i32 a b
    = if a.1 < b.1 then a else if b.1 < a.1 then b else (a.1, if a.2.slt b.2 then a.2 else b.2) := by
  obtain ⟨a, i⟩ := a
  obtain ⟨b, j⟩ := b
  rcases lt_trichotomy (a : EReal) b with h | h | h
  · simp [reducer_argmin_f32_i32, Ideal.cmpf_def, Ideal.cmp, h, h.ne, IntOp.ori, IntOp.andi, Scalar.select]
  · subst h
    by_cases hij : i.slt j <;> simp [reducer_argmin_f32_i32, Ideal.cmpf_def, Ideal.cmp, IntOp.ori, IntOp.andi, Scalar.select, IntOp.cmpi, hij]
  · simp [reducer_argmin_f32_i32, Ideal.cmpf_def, Ideal.cmp, h, h.ne', not_lt_of_gt h, IntOp.ori, IntOp.andi, Scalar.select]

/-- Folding the argmin's body over a list of pairs in which `p` alone has the least value gives `p`. -/
theorem foldl_reducer (p : Pair) : ∀ (L : List Pair) (acc : Pair), acc = p ∨ p ∈ L → acc = p ∨ p.1 < acc.1 →
    (∀ q ∈ L, q = p ∨ p.1 < q.1) → L.foldl reducer_argmin_f32_i32 acc = p
  | [], acc, h, _, _ => by simpa using h
  | q :: L, acc, h, ha, hL => by
    rw [List.foldl_cons]
    have hL' : ∀ q ∈ L, q = p ∨ p.1 < q.1 := fun q hq => hL q (List.mem_cons_of_mem _ hq)
    rcases ha with rfl | ha <;> rcases hL q List.mem_cons_self with rfl | hq
    · rw [show reducer_argmin_f32_i32 q q = q by rw [reducer_eq]; simp]
      exact foldl_reducer q L q (.inl rfl) (.inl rfl) hL'
    · rw [show reducer_argmin_f32_i32 acc q = acc by rw [reducer_eq, if_pos hq]]
      exact foldl_reducer acc L acc (.inl rfl) (.inl rfl) hL'
    · rw [show reducer_argmin_f32_i32 acc q = q by rw [reducer_eq, if_neg (not_lt_of_gt ha), if_pos ha]]
      exact foldl_reducer q L q (.inl rfl) (.inl rfl) hL'
    · have hlt : p.1 < (reducer_argmin_f32_i32 acc q).1 := by
        rw [reducer_eq]; split_ifs <;> assumption
      refine foldl_reducer p L _ (.inr ?_) (.inr hlt) hL'
      rcases h with rfl | h
      · exact absurd ha (lt_irrefl _)
      · rcases List.mem_cons.1 h with rfl | h
        · exact absurd hq (lt_irrefl _)
        · exact h

/-- An argmin over a fiber in which the pair at `k` alone has the least value, below infinity, is that pair's index. -/
theorem argmin_eq {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (k : s.Idx) (hk : h.drop k = j)
    (htop : x k < ix (Shape.Idx.first hu)) (hmin : ∀ i, h.drop i = j → i = k ∨ x k < x i) :
    (Host.argReduce reducer_argmin_f32_i32 x y ix iy h hu j).2 = y k := by
  rw [Ideal.argReduce_eq_reduce2, Host.reduce2_eq_foldl_fiber, foldl_reducer (x k, y k)]
  · refine .inr (List.mem_map.2 ⟨s.rowMajor k, List.mem_filter.2 ⟨List.mem_finRange _, ?_⟩, ?_⟩)
    · simpa using hk
    · simp
  · exact .inr htop
  · intro q hq
    obtain ⟨n, hn, rfl⟩ := List.mem_map.1 hq
    have hn := of_decide_eq_true (List.mem_filter.1 hn).2
    rcases hmin _ hn with h' | h'
    · left; rw [h']
    · exact .inr h'

end Cert.ReferenceIdeal.Nearest

end
-- ==== Proof.Ref.ArgminAxes.lean ====
module

public import proofs.«01_k».proof.Proof.Ref.Argmin
public import Idealize.ShloMosaic.Lib.Pointwise

/-! # The reference's argmin along each of the two particle axes -/

@[expose] public section

set_option maxRecDepth 16384

noncomputable section

namespace Cert.ReferenceIdeal.Nearest

open Cert.ReferenceIdeal Cert.ReferenceIdeal.Gen Idealize.ShloMosaic

/-- The indices are the second halves of the pairs. -/
theorem indices_apply (r : S64x4x512.Idx → Ideal .f32 × BitVec 32) (j : S64x4x512.Idx) : indices r j = (r j).2 := rfl

/-- The index array along the state axis. -/
theorem iota_apply2 (i : S64x4x512x512.Idx) : iotaInDim S64x4x512x512 32 2 i = BitVec.ofNat 32 (i 2).val := rfl

/-- The index array along the goal axis. -/
theorem iota_apply3 (i : S64x4x512x512.Idx) : iotaInDim S64x4x512x512 32 3 i = BitVec.ofNat 32 (i 3).val := rfl

/-- The argmin over the states, where state `k` alone is nearest to goal `j`. -/
theorem argmin_axis2 (P : FVec Ideal S64x4x512x512 .f32) (b : Fin 64) (v : Fin 4) (j k : Fin 512) (htop : P (ix4 b v k j) < (⊤ : EReal))
    (hmin : ∀ i, i = k ∨ P (ix4 b v k j) < P (ix4 b v i j)) :
    goalNearest P (ix3 b v j) = BitVec.ofNat 32 k.val := by
  have hinf : Ideal.ofBits .f32 0x7F800000#32 = (⊤ : EReal) := by simp [Ideal.ofBits, Ideal.ieee]
  unfold goalNearest
  refine (indices_apply _ _).trans ((argmin_eq P (iotaInDim S64x4x512x512 32 2) (constant S_ .f32 0x7F800000#32) (constantI S_ 32 0#32)
    reducesTo_S64x4x512x512_S64x4x512_d2 h_S_ (ix3 b v j) (ix4 b v k j) ?_ ?_ ?_).trans (iota_apply2 _))
  · funext a; refine Fin.ext ?_; fin_cases a <;> rfl
  · exact lt_of_lt_of_eq htop hinf.symm
  · intro i hi
    have h0 := reducesTo_S64x4x512x512_S64x4x512_d2.drop_apply_val_of_eq i 0 0
    have h1 := reducesTo_S64x4x512x512_S64x4x512_d2.drop_apply_val_of_eq i 1 1
    have h2 := reducesTo_S64x4x512x512_S64x4x512_d2.drop_apply_val_of_eq i 2 3
    rw [hi] at h0 h1 h2
    have e : i = ix4 b v (i 2) j := by
      funext a; refine Fin.ext ?_
      fin_cases a
      · exact h0.symm
      · exact h1.symm
      · exact rfl
      · exact h2.symm
    rw [e]
    rcases hmin (i 2) with h' | h'
    · exact .inl (by subst h'; rfl)
    · exact .inr h'

/-- The argmin over the goals, where goal `k` alone is nearest to state `j`. -/
theorem argmin_axis3 (P : FVec Ideal S64x4x512x512 .f32) (b : Fin 64) (v : Fin 4) (j k : Fin 512) (htop : P (ix4 b v j k) < (⊤ : EReal))
    (hmin : ∀ i, i = k ∨ P (ix4 b v j k) < P (ix4 b v j i)) :
    stateNearest P (ix3 b v j) = BitVec.ofNat 32 k.val := by
  have hinf : Ideal.ofBits .f32 0x7F800000#32 = (⊤ : EReal) := by simp [Ideal.ofBits, Ideal.ieee]
  unfold stateNearest
  refine (indices_apply _ _).trans ((argmin_eq P (iotaInDim S64x4x512x512 32 3) (constant S_ .f32 0x7F800000#32) (constantI S_ 32 0#32)
    reducesTo_S64x4x512x512_S64x4x512_d3 h_S_ (ix3 b v j) (ix4 b v j k) ?_ ?_ ?_).trans (iota_apply3 _))
  · funext a; refine Fin.ext ?_; fin_cases a <;> rfl
  · exact lt_of_lt_of_eq htop hinf.symm
  · intro i hi
    have h0 := reducesTo_S64x4x512x512_S64x4x512_d3.drop_apply_val_of_eq i 0 0
    have h1 := reducesTo_S64x4x512x512_S64x4x512_d3.drop_apply_val_of_eq i 1 1
    have h2 := reducesTo_S64x4x512x512_S64x4x512_d3.drop_apply_val_of_eq i 2 2
    rw [hi] at h0 h1 h2
    have e : i = ix4 b v j (i 3) := by
      funext a; refine Fin.ext ?_
      fin_cases a
      · exact h0.symm
      · exact h1.symm
      · exact h2.symm
      · exact rfl
    rw [e]
    rcases hmin (i 3) with h' | h'
    · exact .inl (by subst h'; rfl)
    · exact .inr h'

end Cert.ReferenceIdeal.Nearest

end
-- ==== Proof.Ref.Take.lean ====
module

public import proofs.«01_k».proof.Proof.Ref.Reward
public import Idealize.ShloMosaic.Lib.Pointwise

/-! # The reference's `take_along_axis` at an index that is in range -/

@[expose] public section

set_option maxRecDepth 16384

noncomputable section

namespace Cert.ReferenceIdeal.Nearest

open Cert.ReferenceIdeal Cert.ReferenceIdeal.Gen Idealize.ShloMosaic

/-- The gather of the reference along the particle axis, where the start index read is `k`, takes particle `k`. -/
theorem gather_apply (x : FVec Ideal S64x4x512x2 .f32) (idx : IVec S64x4x512x2x1 32) (b : Fin 64) (v : Fin 4) (i : Fin 512) (f : Fin 2)
    (k : Fin 512) (hk : idx (ix5 b v i f 0) = BitVec.ofNat 32 k.val) :
    Host.gather gather_S64x4x512x2_S64x4x512x2x1_S64x4x512x2_n_2_013_013_2_4_1111 x idx (ix4 b v i f) = x (ix4 b v k f) := by
  set d := gather_S64x4x512x2_S64x4x512x2x1_S64x4x512x2_n_2_013_013_2_4_1111 with hd
  have hsi : d.siIdx (ix4 b v i f) ⟨0, by decide⟩ = ix5 b v i f 0 := by
    funext a; fin_cases a <;> rfl
  have hstart : d.start (ix4 b v i f) idx 2 = k := by
    unfold GatherDims.start
    rw [dif_pos (by decide)]
    show min (idx (d.siIdx (ix4 b v i f) ⟨0, _⟩)).toInt.toNat 511 = k
    rw [hsi, hk]
    have : (BitVec.ofNat 32 k.val).toInt = k.val := by
      rw [BitVec.toInt_eq_toNat_of_lt] <;> rw [BitVec.toNat_ofNat] <;> omega
    rw [this]; omega
  refine congrArg x (funext fun a => Fin.ext ?_)
  show d.start (ix4 b v i f) idx a + d.batchCoord (ix4 b v i f) a + d.offCoord (ix4 b v i f) a = _
  have hoff : d.offCoord (ix4 b v i f) a = 0 := d.offCoord_eq_zero _ a (by fin_cases a <;> decide)
  rw [hoff, Nat.add_zero]
  fin_cases a
  · rw [d.start_batching _ _ _ (by decide), Nat.zero_add]; rfl
  · rw [d.start_batching _ _ _ (by decide), Nat.zero_add]; rfl
  · exact congrArg₂ (· + ·) hstart (d.batchCoord_eq_zero _ _ (by decide))
  · rw [d.start_batching _ _ _ (by decide), Nat.zero_add]; rfl

/-- A particle index is not below zero and not above 511, as the signed 32-bit comparisons have it. -/
theorem index_cmp (k : Fin 512) : IntOp.cmpi .slt (BitVec.ofNat 32 k.val) 0#32 = 0#1
    ∧ IntOp.cmpi .sge (BitVec.ofNat 32 k.val) 0#32 = 1#1 ∧ IntOp.cmpi .sle (BitVec.ofNat 32 k.val) 511#32 = 1#1 := by
  revert k; decide +kernel

/-- An index array is the same for both position features. -/
theorem spread_apply (y : IVec S64x4x512 32) (b : Fin 64) (v : Fin 4) (j : Fin 512) (f : Fin 2) : spread y (ix4 b v j f) = y (ix3 b v j) := by
  pointwise [spread]

/-- An index that is a particle's is not wrapped. -/
theorem starts_apply (y : IVec S64x4x512x2 32) (b : Fin 64) (v : Fin 4) (j k : Fin 512) (f : Fin 2) (hk : y (ix4 b v j f) = BitVec.ofNat 32 k.val) :
    starts y (ix5 b v j f 0) = BitVec.ofNat 32 k.val := by
  pointwise [starts]
  rw [hk, (index_cmp k).1]
  rfl

/-- An index that is a particle's is in range. -/
theorem inRange_apply (s : IVec S64x4x512x2x1 32) (b : Fin 64) (v : Fin 4) (j k : Fin 512) (f : Fin 2) (hk : s (ix5 b v j f 0) = BitVec.ofNat 32 k.val) :
    inRange s (ix4 b v j f) = 1#1 := by
  pointwise [inRange]
  rw [Finset.univ_unique, Finset.fold_singleton, Fin.default_eq_zero, hk, (index_cmp k).2.1, (index_cmp k).2.2]
  rfl

/-- `take_along_axis` where the index is `k`: the element taken is particle `k`'s. -/
theorem taken_apply (x : FVec Ideal S64x4x512x2 .f32) (y : IVec S64x4x512 32) (b : Fin 64) (v : Fin 4) (j k : Fin 512) (f : Fin 2)
    (hk : y (ix3 b v j) = BitVec.ofNat 32 k.val) : taken x y (ix4 b v j f) = x (ix4 b v k f) := by
  have hs := starts_apply (spread y) b v j k f ((spread_apply y b v j f).trans hk)
  unfold taken
  generalize starts (spread y) = s at hs ⊢
  show Scalar.select (inRange s (ix4 b v j f)) (Host.gather _ x s (ix4 b v j f)) _ = _
  rw [inRange_apply s b v j k f hs, gather_apply x s b v j f k hs]
  rfl

end Cert.ReferenceIdeal.Nearest

end
-- ==== Proof.Ref.Term.lean ====
module

public import proofs.«01_k».proof.Proof.Ref.Dist
public import proofs.«01_k».proof.Proof.Ref.ArgminAxes
public import proofs.«01_k».proof.Proof.Ref.Take

/-! # What each particle contributes to the reference's sums -/

@[expose] public section

set_option maxRecDepth 16384

noncomputable section

namespace Cert.ReferenceIdeal.Nearest

open Cert.ReferenceIdeal Cert.ReferenceIdeal.Gen Idealize.ShloMosaic Cert.Chamfer

/-- A particle's contribution, from its least distance `q`, its position `p` and the position `r` taken. -/
theorem term_apply (q : FVec Ideal S64x4x512 .f32) (p r : FVec Ideal S64x4x512x2 .f32) (b : Fin 64) (v : Fin 4) (j : Fin 512) :
    term q p r (ix3 b v j) = if ((6 : ℝ) : EReal) < q (ix3 b v j) then (1 : EReal)
      else Ideal.sqrt (sqDiff (p (ix4 b v j 0)) (r (ix4 b v j 0)) + sqDiff (p (ix4 b v j 1)) (r (ix4 b v j 1))) := by
  pointwise [term, masked_apply, each]
  rw [Fin.sum_univ_two, ofBits_six]
  rfl

/-- The positions are features 0 and 1. -/
theorem places_apply (x : FVec Ideal S64x4x512x10 .f32) (b : Fin 64) (v : Fin 4) (i : Fin 512) (f : Fin 2) :
    places x (ix4 b v i f) = x (ix4 b v i ⟨f, by omega⟩) := by
  pointwise [places]

/-- Where one family of distances has `k` alone at its least value, below the threshold: the others are farther. -/
theorem others_farther {n : ℕ} (P : Fin n → EReal) (k : Fin n) (hk : ∀ i, P i = least P ↔ i = k) (i : Fin n) : i = k ∨ P k < P i := by
  rcases eq_or_ne i k with h | h
  · exact .inl h
  · refine .inr (lt_of_le_of_ne ?_ fun e => h ?_)
    · rw [(hk k).2 rfl]; exact least_le P i
    · exact (hk i).1 (e ▸ (hk k).2 rfl)

/-- Where the least distance is not above the threshold it is not infinite. -/
theorem nearest_lt_top {n : ℕ} (P : Fin n → EReal) (k : Fin n) (hk : ∀ i, P i = least P ↔ i = k) (h : ¬ ((6 : ℝ) : EReal) < least P) : P k < ⊤ := by
  rw [(hk k).2 rfl]
  exact lt_of_le_of_lt (not_lt.1 h) (EReal.coe_lt_top 6)

/-- A contribution in a direction whose latent distances to the others are `P` and whose position distances are `R`, where it is settled: given that
`q` is the least of `P`, and that where `k` alone is least the position distance of `p` to `r` is `R k`. -/
theorem term_eq (q : FVec Ideal S64x4x512 .f32) (p r : FVec Ideal S64x4x512x2 .f32) (b : Fin 64) (v : Fin 4) (l : Fin 512) (P R : Fin 512 → EReal)
    (h : Settled P) (hq : q (ix3 b v l) = least P)
    (hr : ∀ k, P k < ⊤ → (∀ i, i = k ∨ P k < P i) →
      sqDiff (p (ix4 b v l 0)) (r (ix4 b v l 0)) + sqDiff (p (ix4 b v l 1)) (r (ix4 b v l 1)) = R k) :
    term q p r (ix3 b v l) = near P R := by
  rw [term_apply, hq]
  by_cases hf : ((6 : ℝ) : EReal) < least P
  · rw [if_pos hf, near_of_far _ _ hf]
  · rw [if_neg hf]
    rcases h with h | ⟨k, hk⟩
    · exact absurd h hf
    rw [near_of_unique _ _ hf k hk]
    rw [hr k (nearest_lt_top P k hk hf) (others_farther P k hk)]

variable (x0 x1 : FVec Ideal S64x4x512x10 .f32)

/-- What goal `l` contributes, where it is settled over the state particles. -/
theorem goalTerms_apply (b : Fin 64) (v : Fin 4) (l : Fin 512) (h : Settled fun i => latentDist (batch x1 b v l) (batch x0 b v i)) :
    goalTerms x0 x1 (ix3 b v l) = near (fun i => latentDist (batch x1 b v l) (batch x0 b v i)) (fun i => placeDist (batch x1 b v l) (batch x0 b v i)) := by
  have hD := fun i => dists_apply x0 x1 b v i l
  unfold goalTerms
  generalize dists x0 x1 = D at hD
  refine term_eq _ _ _ b v l _ _ h ((goalLeast_apply D b v l).trans (congrArg least (funext hD))) fun k htop hmin => ?_
  have ht := fun f => taken_apply (places x0) (goalNearest D) b v l k f
    (argmin_axis2 D b v l k (by rw [hD]; exact htop) fun i => by rw [hD, hD]; exact hmin i)
  rw [ht, ht]
  simp only [places_apply]
  rfl

/-- What state `l` contributes, where it is settled over the goal particles. -/
theorem stateTerms_apply (b : Fin 64) (v : Fin 4) (l : Fin 512) (h : Settled fun i => latentDist (batch x1 b v i) (batch x0 b v l)) :
    stateTerms x0 x1 (ix3 b v l) = near (fun i => latentDist (batch x1 b v i) (batch x0 b v l)) (fun i => placeDist (batch x1 b v i) (batch x0 b v l)) := by
  have hD := fun i => dists_apply x0 x1 b v l i
  unfold stateTerms
  generalize dists x0 x1 = D at hD
  refine term_eq _ _ _ b v l _ _ h ((stateLeast_apply D b v l).trans (congrArg least (funext hD))) fun k htop hmin => ?_
  have ht := fun f => taken_apply (places x1) (stateNearest D) b v l k f
    (argmin_axis3 D b v l k (by rw [hD]; exact htop) fun i => by rw [hD, hD]; exact hmin i)
  rw [ht, ht]
  simp only [places_apply]
  exact placeDist_comm (batch x0 b v l) (batch x1 b v k)

end Cert.ReferenceIdeal.Nearest

end
-- ==== Proof.Ref.Result.lean ====
module

public import proofs.«01_k».proof.Proof.Ref.Term

/-! # The reference's result from the particles' contributions -/

@[expose] public section

set_option maxRecDepth 16384

noncomputable section

namespace Cert.ReferenceIdeal.Nearest

open Cert.ReferenceIdeal Cert.ReferenceIdeal.Gen Idealize.ShloMosaic Cert.Chamfer

/-- Adding one for each of 512 particles. -/
theorem count : Finset.univ.fold IntOp.addi 0#32 (fun _ : Fin 512 => 1#32) = 512#32 := by
  decide +kernel

/-- The particles of a view number 512. -/
theorem number_apply (b : Fin 64) (v : Fin 4) : (((number Ideal (ix2 b v)).toInt : ℝ) : EReal) = ((512 : ℝ) : EReal) := by
  pointwise [number, masked_apply]
  rw [show (fun _ : Fin 512 => BitVec.setWidth 32 (~~~0#1 : BitVec 1)) = fun _ => 1#32 from rfl, count, show IntOp.maxsi 512#32 1#32 = 512#32 by decide,
    show (512#32 : BitVec 32).toInt = 512 by decide]
  norm_num

/-- The conjunction of 512 bits that are zero. -/
theorem none_set : Finset.univ.fold IntOp.andi 1#1 (fun _ : Fin 512 => 0#1) = 0#1 := by
  decide +kernel

/-- No view is without particles. -/
theorem empty_apply (b : Fin 64) (v : Fin 4) : empty Ideal (ix2 b v) = 0#1 := by
  pointwise [empty, masked_apply]
  exact none_set

/-- Minus the mean of a view's contributions. -/
theorem mean_apply (t : FVec Ideal S64x4x512 .f32) (b : Fin 64) (v : Fin 4) :
    mean t (ix2 b v) = Ideal.div (-∑ l, (t (ix3 b v l) : EReal)) ((512 : ℝ) : EReal) := by
  rw [← number_apply b v]
  pointwise [mean]
  rfl

variable (x0 x1 : FVec Ideal S64x4x512x10 .f32)

/-- A view's reward is the mean of the two directions. -/
theorem views_apply (b : Fin 64) (v : Fin 4) :
    views x0 x1 (ix2 b v) = Ideal.div ((mean (goalTerms x0 x1) (ix2 b v) : EReal) + mean (stateTerms x0 x1) (ix2 b v)) ((2 : ℝ) : EReal) := by
  pointwise [views, empty_apply, eachView, ofBits_two]
  rfl

/-- The mean of the views. -/
theorem overViews_apply (r : FVec Ideal S64x4 .f32) (b : Fin 64) :
    overViews r (ix2 b 0) = Ideal.div (∑ v, (r (ix2 b v) : EReal)) ((4 : ℝ) : EReal) := by
  pointwise [overViews, ofBits_four]

/-- The result of a batch, from the contributions of its particles. -/
theorem reward_apply (b : Fin 64) : reward x0 x1 (ix2 b 0)
    = Ideal.div (∑ v, Ideal.div (Ideal.div (-∑ l, (goalTerms x0 x1 (ix3 b v l) : EReal)) ((512 : ℝ) : EReal)
        + Ideal.div (-∑ l, (stateTerms x0 x1 (ix3 b v l) : EReal)) ((512 : ℝ) : EReal)) ((2 : ℝ) : EReal)) ((4 : ℝ) : EReal) := by
  unfold reward
  rw [overViews_apply]
  exact congrArg (Ideal.div · _) (Finset.sum_congr rfl fun v _ => by rw [views_apply, mean_apply, mean_apply])

/-- The means of the two directions and of the views, together: one factor of the sum. -/
theorem means_eq (p q : Fin 4 → Fin 512 → EReal) (hp : ∀ v l, 0 ≤ p v l) (hq : ∀ v l, 0 ≤ q v l) :
    Ideal.div (∑ v, Ideal.div (Ideal.div (-∑ l, p v l) ((512 : ℝ) : EReal) + Ideal.div (-∑ l, q v l) ((512 : ℝ) : EReal)) ((2 : ℝ) : EReal)) ((4 : ℝ) : EReal)
      = (∑ l, ((p 0 l + q 0 l) + (p 1 l + q 1 l) + (p 2 l + q 2 l) + (p 3 l + q 3 l))) * ((-(1 / 4096) : ℝ) : EReal) := by
  have hv : ∀ v, Ideal.div (Ideal.div (-∑ l, p v l) ((512 : ℝ) : EReal) + Ideal.div (-∑ l, q v l) ((512 : ℝ) : EReal)) ((2 : ℝ) : EReal)
      = (∑ l, (p v l + q v l)) * ((-(1 / 1024) : ℝ) : EReal) := fun v => by
    rw [Ideal.div_coe (by norm_num), Ideal.div_coe (by norm_num), Ideal.div_coe (by norm_num), neg_mul, neg_mul, ← mul_neg, ← mul_neg, ← EReal.coe_neg,
      ← EReal.right_distrib_of_nonneg (Finset.sum_nonneg fun l _ => hp v l) (Finset.sum_nonneg fun l _ => hq v l), ← Finset.sum_add_distrib, mul_assoc, ← EReal.coe_mul]
    norm_num
  have hs : ∀ v, 0 ≤ ∑ l, (p v l + q v l) := fun v => Finset.sum_nonneg fun l _ => add_nonneg (hp v l) (hq v l)
  simp only [hv, Fin.sum_univ_four, Finset.sum_add_distrib (s := (Finset.univ : Finset (Fin 512)))] at hs ⊢
  rw [Ideal.div_coe (by norm_num), ← EReal.right_distrib_of_nonneg (hs 0) (hs 1), ← EReal.right_distrib_of_nonneg (add_nonneg (hs 0) (hs 1)) (hs 2),
    ← EReal.right_distrib_of_nonneg (add_nonneg (add_nonneg (hs 0) (hs 1)) (hs 2)) (hs 3), mul_assoc, ← EReal.coe_mul]
  norm_num

/-- The reference's result for a batch whose particles are all settled: minus the sum of the particles' terms, over 4096. -/
theorem result_eq (b : Fin 64)
    (h : ∀ v l, Settled (fun i => latentDist (batch x1 b v l) (batch x0 b v i)) ∧ Settled (fun i => latentDist (batch x1 b v i) (batch x0 b v l))) :
    reward x0 x1 (ix2 b 0)
      = (∑ l, (pairTerm (batch x1 b 0) (batch x0 b 0) l + pairTerm (batch x1 b 1) (batch x0 b 1) l + pairTerm (batch x1 b 2) (batch x0 b 2) l
          + pairTerm (batch x1 b 3) (batch x0 b 3) l)) * ((-(1 / 4096) : ℝ) : EReal) := by
  rw [reward_apply]
  have hg := fun v l => goalTerms_apply x0 x1 b v l (h v l).1
  have hs := fun v l => stateTerms_apply x0 x1 b v l (h v l).2
  simp only [hg, hs]
  exact means_eq _ _ (fun _ _ => near_nonneg _ _ fun _ => placeDist_nonneg _ _) (fun _ _ => near_nonneg _ _ fun _ => placeDist_nonneg _ _)

end Cert.ReferenceIdeal.Nearest

end
-- ==== Proof.Ref.Run.lean ====
module

public import proofs.«01_k».proof.Proof.Ref.Reward
public import Idealize.ShloMosaic.Lib.StableHlo.RunHlo
public import Idealize.ShloMosaic.Lib.StableHlo.RunRead
public import Idealize.ShloMosaic.Lib.Quiescent

/-! # The reference's run

The program is a straight line of host operations; its result buffer ends holding `reward` of the two arguments. -/

@[expose] public section

set_option maxRecDepth 200000

noncomputable section

namespace Cert.ReferenceIdeal.Nearest

open Cert.ReferenceIdeal Cert.ReferenceIdeal.Gen Idealize.ShloMosaic Idealize.ShloMosaic.TcCoe Idealize.SL.Sem Idealize.ShloMosaic.StableHlo

variable {F : FTy → Type} [FloatOps F]

/-- The reference's operations, and what they leave in the result buffer and in the arguments'. -/
theorem line : ∃ ops : List (HloOp τ sig (Elt F)), (∀ d, IsSeq (main (F := F) d) ops) ∧ (ops.Forall fun op => op.bufs ⊆ tcRefs τ sig)
    ∧ (∀ op ∈ ops, op.fresh = ∅) ∧ ∀ V : Valuation τ sig (Elt F),
      after ops V (Proc.devRef .tc main_v80) = reward (V (Proc.devRef .tc main_arg0)) (V (Proc.devRef .tc main_arg1))
      ∧ after ops V (Proc.devRef .tc main_arg0) = V (Proc.devRef .tc main_arg0)
      ∧ after ops V (Proc.devRef .tc main_arg1) = V (Proc.devRef .tc main_arg1) := by
  refine ⟨_, by hlo_seq, by simp, ?_, fun V => ⟨?_, ?_, ?_⟩⟩
  · intro _ h; (repeat (cases h with | head => rfl | tail _ h => ?_)); exact nomatch h
  · after_reads_simp
    simp -implicitDefEqProofs only [TRef.toBuf, TRef.ofBuf, cast_eq]
    rfl
  · after_reads_simp
  · after_reads_simp

/-- The reference's run, from any memory with zero counters, for any float values. -/
theorem run (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v80) = reward (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  obtain ⟨ops, hseq, hbufs, hfresh, hV⟩ := line (F := F)
  exact θ_run_mono (run_hlo defs main hseq (by decide) (by decide) hbufs hfresh m g) fun r h c =>
    ⟨(h c main_v80).trans (hV _).1, (h c main_arg0).trans (hV _).2.1, (h c main_arg1).trans (hV _).2.2⟩

/-- The reference's frame: it runs, leaves its arguments alone, and has no counter that could stay up. -/
theorem frame (m : (ℓ : Loc nD τ sig) → Buf (Elt F) ℓ) (g : Dev nD → PrngReg) :
    θ_run defs (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_mono (run m g) fun _ h => ⟨fun c => (h c).2, sem_eq_zero_of_no_sems rfl _⟩

end Cert.ReferenceIdeal.Nearest

end
-- ==== Proof.Value.Equal.lean ====
module

public import proofs.«01_k».proof.Proof.Value.Array
public import proofs.«01_k».proof.Proof.Value.Pre
public import proofs.«01_k».proof.Proof.Ref.Result
public import proofs.«01_k».proof.Proof.Ref.Run

/-! # The two programs end with the same array

`outcome a0 a1` is that array: batch by batch, minus the sum of the particles' terms over 4096. -/

@[expose] public section

set_option maxRecDepth 16384

noncomputable section

namespace Cert.Equal

open Idealize.ShloMosaic Idealize.ShloMosaic.TcCoe Idealize.SL.Sem Idealize.ShloMosaic.StableHlo Cert.Chamfer Cert.KernelIdeal.Block

/-- The result array of the state array `a0` and the goal array `a1`. -/
def outcome (a0 a1 : FVec Ideal KernelIdeal.S64x4x512x10 .f32) : FVec Ideal KernelIdeal.S64x1 .f32 := fun y => kernelOut a0 a1 (y 0)

/-- The kernel's one trailing reshape: element `b` of the array of blocks is row `b` of the result. -/
theorem column_eq (f : Fin 64 → EReal) : shapeCast KernelIdeal.S64x1 (fun y : KernelIdeal.S64x1x1.Idx => f (y 0)) KernelIdeal.Gen.shapeCasts_S64x1x1_S64x1
    = fun y : KernelIdeal.S64x1.Idx => f (y 0) := by
  funext y
  idx_vars y
  pointwise

/-- The kernel over the extended reals ends with `outcome` of its arguments, which it leaves alone. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r => ∀ c : Dev KernelIdeal.nD,
      r.2.mem ((c.tc : Thread KernelIdeal.nD KernelIdeal.τ).loc KernelIdeal.main_v0)
        = outcome (m ((c.tc : Thread KernelIdeal.nD KernelIdeal.τ).loc KernelIdeal.main_arg0)) (m ((c.tc : Thread KernelIdeal.nD KernelIdeal.τ).loc KernelIdeal.main_arg1))
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1) :=
  (θ_run _ _ _).mono (fun _ h c => ⟨(h c).1.trans ((congrArg (fun x => shapeCast KernelIdeal.S64x1 x KernelIdeal.Gen.shapeCasts_S64x1x1_S64x1) (final m c)).trans
    (column_eq _)), (h c).2⟩) (KernelIdeal.Value.run m g)

/-- Where the precondition holds of the arguments, the reference's result term is `outcome` of them. -/
theorem reference_eq (a0 a1 : FVec Ideal ReferenceIdeal.S64x4x512x10 .f32) (h : Pre_nearest_unique.fn (F := Ideal) a0 a1 = fun _ => 1#1) :
    ReferenceIdeal.Nearest.reward (F := Ideal) a0 a1 = outcome a0 a1 := by
  funext y
  idx_vars y
  obtain rfl := Subsingleton.elim y1 0
  exact ReferenceIdeal.Nearest.result_eq a0 a1 y0 fun v l => Pre_nearest_unique.settled a0 a1 h y0 v l

/-- The reference over the extended reals ends with `outcome` of its arguments, where the precondition holds of them. -/
theorem reference_run (m : (ℓ : Loc ReferenceIdeal.nD ReferenceIdeal.τ ReferenceIdeal.sig) → Buf (Elt Ideal) ℓ) (g : Dev ReferenceIdeal.nD → PrngReg)
    (h : ∀ c : Dev ReferenceIdeal.nD, Pre_nearest_unique.fn (F := Ideal) (m ((c.tc : Thread ReferenceIdeal.nD ReferenceIdeal.τ).loc ReferenceIdeal.main_arg0))
      (m ((c.tc : Thread ReferenceIdeal.nD ReferenceIdeal.τ).loc ReferenceIdeal.main_arg1)) = fun _ => 1#1) :
    θ_run (ReferenceIdeal.defs (F := Ideal)) (onTc (τ := ReferenceIdeal.τ) (ReferenceIdeal.main (F := Ideal))) ⟨m, fun _ => 0, g⟩ fun r => ∀ c : Dev ReferenceIdeal.nD,
      r.2.mem ((c.tc : Thread ReferenceIdeal.nD ReferenceIdeal.τ).loc ReferenceIdeal.main_v80)
        = outcome (m ((c.tc : Thread ReferenceIdeal.nD ReferenceIdeal.τ).loc ReferenceIdeal.main_arg0)) (m ((c.tc : Thread ReferenceIdeal.nD ReferenceIdeal.τ).loc ReferenceIdeal.main_arg1))
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1) :=
  (θ_run _ _ _).mono (fun _ k c => ⟨(k c).1.trans (reference_eq _ _ (h c)), (k c).2⟩)
    (ReferenceIdeal.Nearest.run m g)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_unique
public import proofs.«01_k».proof.Proof.Gen.KernelIdeal.Run
public import proofs.«01_k».proof.Proof.Gen.KernelIdeal.Read
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The certificate's claims: the frames of the kernel, of its idealization and of the reference, and that the last two compute the same array. -/
theorem claim : Cert.Claim := ⟨Cert.Kernel.Gen.facts, Cert.KernelIdeal.Gen.facts, Cert.ReferenceIdeal.Gen.facts, Cert.Pre_nearest_unique.Gen.facts,
  fun m g _ => Cert.Kernel.Gen.frame m g,
  fun m g _ => Cert.KernelIdeal.Gen.frame m g,
  fun m g _ => Cert.KernelIdeal.Gen.frame m g,
  fun m g _ => Cert.ReferenceIdeal.Nearest.frame m g,
  fun m g _ => Cert.ReferenceIdeal.Nearest.frame m g,
  trivial,
  fun m g m' g' hpre hargs => ⟨_, Cert.Equal.kernel_run m g, (θ_run _ _ _).mono
    (fun _ h c => ⟨(h c).1.trans (congrArg₂ Cert.Equal.outcome (hargs c).1 (hargs c).2), (h c).2⟩)
    (Cert.Equal.reference_run m' g' fun c => (congrArg₂ (Cert.Pre_nearest_unique.fn (F := Ideal)) (hargs c).1 (hargs c).2).trans (hpre c))⟩⟩

end Cert.Proof

end
